-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 1024, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 1024, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  bcast_S_S768x256 : S_.BroadcastsInDim S768x256 (![] : Fin 0 → Fin S768x256.rank)

variable [Facts]

def fn {F : FTy → Type} [FloatOps F] (main_arg0 : FVec F S2x256x768 .bf16) (main_arg1 : FVec F S768x256 .bf16) (main_arg2 : FVec F S768x256 .bf16) (main_arg3 : FVec F S768x256 .bf16) (main_arg4 : FVec F S256x768 .bf16) : IVec S2x256x768 1 × IVec S768x256 1 × IVec S768x256 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_v3 : FVec F S768x256 .bf16 := Host.absf main_arg1
  let main_cst_0 : FVec F S_ .bf16 := constant S_ .bf16 0x7F80#16
  let main_v4 : FVec F S768x256 .bf16 := broadcastInDim S768x256 ![] bcast_S_S768x256 main_cst_0
  let main_v5 : IVec S768x256 1 := cmpf .olt main_v3 main_v4
  let main_v6 : FVec F S768x256 .bf16 := Host.absf main_arg2
  let main_cst_1 : FVec F S_ .bf16 := constant S_ .bf16 0x7F80#16
  let main_v7 : FVec F S768x256 .bf16 := broadcastInDim S768x256 ![] bcast_S_S768x256 main_cst_1
  let main_v8 : IVec S768x256 1 := cmpf .olt main_v6 main_v7
  (main_v2, main_v5, main_v8)
-- ==== Pre_finite_scores_ReferenceIdeal.lean ====
abbrev S2x1024x768 : Shape := ⟨3, ![2, 1024, 768]⟩
abbrev S768x256 : Shape := ⟨2, ![768, 256]⟩
abbrev S256x768 : Shape := ⟨2, ![256, 768]⟩
abbrev S_ : Shape := ⟨0, ![]⟩

class Facts : Prop where
  bcast_S_S2x1024x768 : S_.BroadcastsInDim S2x1024x768 (![] : Fin 0 → Fin S2x1024x768.rank)
  bcast_S_S768x256 : S_.BroadcastsInDim S768x256 (![] : Fin 0 → Fin S768x256.rank)

variable [Facts]

def fn {F : FTy → Type} [FloatOps F] (main_arg0 : FVec F S2x1024x768 .bf16) (main_arg1 : FVec F S768x256 .bf16) (main_arg2 : FVec F S768x256 .bf16) (main_arg3 : FVec F S768x256 .bf16) (main_arg4 : FVec F S256x768 .bf16) : IVec S2x1024x768 1 × IVec S768x256 1 × IVec S768x256 1 :=
  let main_v0 : FVec F S2x1024x768 .bf16 := Host.absf main_arg0
  let main_cst : FVec F S_ .bf16 := constant S_ .bf16 0x7F80#16
  let main_v1 : FVec F S2x1024x768 .bf16 := broadcastInDim S2x1024x768 ![] bcast_S_S2x1024x768 main_cst
  let main_v2 : IVec S2x1024x768 1 := cmpf .olt main_v0 main_v1
  let main_v3 : FVec F S768x256 .bf16 := Host.absf main_arg1
  let main_cst_0 : FVec F S_ .bf16 := constant S_ .bf16 0x7F80#16
  let main_v4 : FVec F S768x256 .bf16 := broadcastInDim S768x256 ![] bcast_S_S768x256 main_cst_0
  let main_v5 : IVec S768x256 1 := cmpf .olt main_v3 main_v4
  let main_v6 : FVec F S768x256 .bf16 := Host.absf main_arg2
  let main_cst_1 : FVec F S_ .bf16 := constant S_ .bf16 0x7F80#16
  let main_v7 : FVec F S768x256 .bf16 := broadcastInDim S768x256 ![] bcast_S_S768x256 main_cst_1
  let main_v8 : IVec S768x256 1 := cmpf .olt main_v6 main_v7
  (main_v2, main_v5, main_v8)
-- ==== Kernel.lean ====
abbrev S2x256x768 : Shape := ⟨3, ![2, 256, 768]⟩
abbrev S768x256 : Shape := ⟨2, ![768, 256]⟩
abbrev S256x768 : Shape := ⟨2, ![256, 768]⟩
abbrev S4x512x512 : Shape := ⟨3, ![4, 512, 512]⟩
abbrev S4 : Shape := ⟨1, ![4]⟩
abbrev S_ : Shape := ⟨0, ![]⟩
abbrev S512x768 : Shape := ⟨2, ![512, 768]⟩
abbrev S512x256 : Shape := ⟨2, ![512, 256]⟩
abbrev S512x255 : Shape := ⟨2, ![512, 255]⟩
abbrev S512x1 : Shape := ⟨2, ![512, 1]⟩
abbrev S512x512 : Shape := ⟨2, ![512, 512]⟩
abbrev S1x512x512 : Shape := ⟨3, ![1, 512, 512]⟩
abbrev S1 : Shape := ⟨1, ![1]⟩
abbrev S256x1 : Shape := ⟨2, ![256, 1]⟩
abbrev S256x64 : Shape := ⟨2, ![256, 64]⟩
abbrev S256x512 : Shape := ⟨2, ![256, 512]⟩
abbrev S256x256 : Shape := ⟨2, ![256, 256]⟩
abbrev S256 : Shape := ⟨1, ![256]⟩
abbrev S1x256x512 : Shape := ⟨3, ![1, 256, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S2x256x768, .f32⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S2x256x768, .f32⟩
  | .local _ .vmem, ⟨6, _⟩ => ⟨S4x512x512, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_46 : BitVec 32 := 1#32
  let v115 : BitVec 32 := Scalar.muli v6 c1_i32_46
  let v116 : BitVec 32 := Scalar.addi c0_i32_47 v115
  v116.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_56 : BitVec 32 := 1#32
  let v125 : BitVec 32 := Scalar.muli v4 c1_i32_56
  let v126 : BitVec 32 := Scalar.addi c0_i32_57 v125
  v126.toNat
def k0_dev5 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_167 : BitVec 32 := 1#32
  let v437 : BitVec 32 := Scalar.muli v6 c1_i32_167
  let v438 : BitVec 32 := Scalar.addi c0_i32_168 v437
  v438.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_187 : BitVec 32 := 1#32
  let v455 : BitVec 32 := Scalar.muli v4 c1_i32_187
  let v456 : BitVec 32 := Scalar.addi c0_i32_188 v455
  v456.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x768 : Shape := ⟨3, ![2, 1024, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x256 : Shape := ⟨3, ![2, 1024, 256]⟩
abbrev S2x1024x4x64 : Shape := ⟨4, ![2, 1024, 4, 64]⟩
abbrev S2x1024x4x32x2 : Shape := ⟨5, ![2, 1024, 4, 32, 2]⟩
abbrev S2x1024x4x32x1 : Shape := ⟨5, ![2, 1024, 4, 32, 1]⟩
abbrev S2x1024x4x32 : Shape := ⟨4, ![2, 1024, 4, 32]⟩
abbrev S1x1024x1x64 : Shape := ⟨4, ![1, 1024, 1, 64]⟩
abbrev S2x4x1024x1024 : Shape := ⟨4, ![2, 4, 1024, 1024]⟩
abbrev S2x4x1024 : Shape := ⟨3, ![2, 4, 1024]⟩
abbrev S2x4x1024x1 : Shape := ⟨4, ![2, 4, 1024, 1]⟩
abbrev S2x4x64x1024 : Shape := ⟨4, ![2, 4, 64, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x1024x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S2x1024x768, .f32⟩
  | .hbm, ⟨6, _⟩ => ⟨S768x256, .f32⟩
  | .hbm, ⟨7, _⟩ => ⟨S768x256, .f32⟩
  | .hbm, ⟨8, _⟩ => ⟨S768x256, .f32⟩
  | .hbm, ⟨9, _⟩ => ⟨S256x768, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1024, .i32⟩
  | .hbm, ⟨28, _⟩ => ⟨S1024x1, .i32⟩
  | .hbm, ⟨29, _⟩ => ⟨S1x32, .f32⟩
  | .hbm, ⟨30, _⟩ => ⟨S1024x1, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32x2, .f32⟩
  | .hbm, ⟨36, _⟩ => ⟨S1024x64, .f32⟩
  | .hbm, ⟨37, _⟩ => ⟨S1024x32, .f32⟩
  | .hbm, ⟨38, _⟩ => ⟨S1024x32x2, .f32⟩
  | .hbm, ⟨39, _⟩ => ⟨S1024x64, .f32⟩
  | .hbm, ⟨40, _⟩ => ⟨S2x1024x256, .f32⟩
  | .hbm, ⟨41, _⟩ => ⟨S2x1024x4x64, .f32⟩
  | .hbm, ⟨42, _⟩ => ⟨S2x1024x4x32x2, .f32⟩
  | .hbm, ⟨43, _⟩ => ⟨S2x1024x4x32x1, .f32⟩
  | .hbm, ⟨44, _⟩ => ⟨S2x1024x4x32, .f32⟩
  | .hbm, ⟨45, _⟩ => ⟨S2x1024x4x32, .f32⟩
  | .hbm, ⟨46, _⟩ => ⟨S2x1024x4x32x1, .f32⟩
  | .hbm, ⟨47, _⟩ => ⟨S2x1024x4x32, .f32⟩
  | .hbm, ⟨48, _⟩ => ⟨S2x1024x4x32x1, .f32⟩
  | .hbm, ⟨49, _⟩ => ⟨S2x1024x4x32x1, .f32⟩
  | .hbm, ⟨50, _⟩ => ⟨S2x1024x4x32x2, .f32⟩
  | .hbm, ⟨51, _⟩ => ⟨S2x1024x4x64, .f32⟩
  | .hbm, ⟨52, _⟩ => ⟨S1x1024x1x64, .f32⟩
  | .hbm, ⟨53, _⟩ => ⟨S2x1024x4x64, .f32⟩
  | .hbm, ⟨54, _⟩ => ⟨S2x1024x4x64, .f32⟩
  | .hbm, ⟨55, _⟩ => ⟨S1x1024x1x64, .f32⟩
  | .hbm, ⟨56, _⟩ => ⟨S2x1024x4x64, .f32⟩
  | .hbm, ⟨57, _⟩ => ⟨S2x1024x4x64, .f32⟩
  | .hbm, ⟨58, _⟩ => ⟨S2x1024x4x64, .f32⟩
  | .hbm, ⟨59, _⟩ => ⟨S2x1024x256, .f32⟩
  | .hbm, ⟨60, _⟩ => ⟨S2x1024x4x64, .f32⟩
  | .hbm, ⟨61, _⟩ => ⟨S2x1024x4x32x2, .f32⟩
  | .hbm, ⟨62, _⟩ => ⟨S2x1024x4x32x1, .f32⟩
  | .hbm, ⟨63, _⟩ => ⟨S2x1024x4x32, .f32⟩
  | .hbm, ⟨64, _⟩ => ⟨S2x1024x4x32, .f32⟩
  | .hbm, ⟨65, _⟩ => ⟨S2x1024x4x32x1, .f32⟩
  | .hbm, ⟨66, _⟩ => ⟨S2x1024x4x32, .f32⟩
  | .hbm, ⟨67, _⟩ => ⟨S2x1024x4x32x1, .f32⟩
  | .hbm, ⟨68, _⟩ => ⟨S2x1024x4x32x1, .f32⟩
  | .hbm, ⟨69, _⟩ => ⟨S2x1024x4x32x2, .f32⟩
  | .hbm, ⟨70, _⟩ => ⟨S2x1024x4x64, .f32⟩
  | .hbm, ⟨71, _⟩ => ⟨S1x1024x1x64, .f32⟩
  | .hbm, ⟨72, _⟩ => ⟨S2x1024x4x64, .f32⟩
  | .hbm, ⟨73, _⟩ => ⟨S2x1024x4x64, .f32⟩
  | .hbm, ⟨74, _⟩ => ⟨S1x1024x1x64, .f32⟩
  | .hbm, ⟨75, _⟩ => ⟨S2x1024x4x64, .f32⟩
  | .hbm, ⟨76, _⟩ => ⟨S2x1024x4x64, .f32⟩
  | .hbm, ⟨77, _⟩ => ⟨S2x1024x4x64, .f32⟩
  | .hbm, ⟨78, _⟩ => ⟨S2x1024x256, .f32⟩
  | .hbm, ⟨79, _⟩ => ⟨S2x1024x4x64, .f32⟩
  | .hbm, ⟨80, _⟩ => ⟨S2x4x1024x1024, .f32⟩
  | .hbm, ⟨81, _⟩ => ⟨S_, .f32⟩
  | .hbm, ⟨82, _⟩ => ⟨S2x4x1024x1024, .f32⟩
  | .hbm, ⟨83, _⟩ => ⟨S2x4x1024x1024, .f32⟩
  | .hbm, ⟨84, _⟩ => ⟨S_, .f32⟩
  | .hbm, ⟨85, _⟩ => ⟨S2x4x1024, .f32⟩
  | .hbm, ⟨86, _⟩ => ⟨S2x4x1024x1, .f32⟩
  | .hbm, ⟨87, _⟩ => ⟨S2x4x1024x1024, .f32⟩
  | .hbm, ⟨88, _⟩ => ⟨S2x4x1024x1024, .f32⟩
  | .hbm, ⟨89, _⟩ => ⟨S2x4x1024x1024, .f32⟩
  | .hbm, ⟨90, _⟩ => ⟨S_, .f32⟩
  | .hbm, ⟨91, _⟩ => ⟨S2x4x1024, .f32⟩
  | .hbm, ⟨92, _⟩ => ⟨S2x4x1024x1, .f32⟩
  | .hbm, ⟨93, _⟩ => ⟨S2x4x1024x1024, .f32⟩
  | .hbm, ⟨94, _⟩ => ⟨S2x4x1024x1024, .f32⟩
  | .hbm, ⟨95, _⟩ => ⟨S2x4x64x1024, .f32⟩
  | .hbm, ⟨96, _⟩ => ⟨S2x1024x4x64, .f32⟩
  | .hbm, ⟨97, _⟩ => ⟨S2x1024x256, .f32⟩
  | .hbm, ⟨98, _⟩ => ⟨S2x1024x768, .f32⟩
  | _, _ => ⟨S2x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Values.lean ====
module

public import proofs.«01_k».proof.Proof.Gen.KernelIdeal.Skeleton

/-! What the kernel computes, as functions over any float values.

The program text spreads eight attention heads times four key blocks over many parts. Here each head is one function
of its batch entry and head number, and each key block is one application of `absorb`. -/

@[expose] public section
set_option maxRecDepth 65536
noncomputable section
namespace Cert.KernelIdeal.Attn
open Cert.KernelIdeal Cert.KernelIdeal.Gen
open Idealize.ShloMosaic Idealize.ShloMosaic.TcCoe

variable {F : FTy → Type} [FloatOps F]

/-! ## Rotated projections -/

/-- The lane number of every entry. -/
def lanes : IVec S512x256 32 := iota .tc S512x256 32 [1] iota_S512x256_d1_w32

/-- The rotation angle of every entry on device `c`: its position times its lane's inverse frequency. -/
def angle (c : Dev nD) : FVec F S512x256 .f32 := mulf (k0_pay4 c) (exp (k0_pay5 lanes 64#32 0#32))

/-- `t` with each lane pair turned by its angle, rounded to bf16. -/
def turned (c : Dev nD) (t : FVec F S512x256 .f32) : FVec F S512x256 .bf16 :=
  k0_pay18 t (cos (angle c)) (sin (angle c)) (k0_pay15 t) (k0_pay16 t) 2#32 (k0_pay17 lanes) 0#32

/-- The rotated queries of device `c`. -/
def queries (c : Dev nD) (x : FVec F S2x256x768 .bf16) (wq : FVec F S768x256 .bf16) : FVec F S512x256 .bf16 :=
  turned c (k0_pay8 (k0_pay1 x) wq)

/-- The block device `c` sends round: rotated keys in the first 256 lanes, values in the last. -/
def kvBlock (c : Dev nD) (x : FVec F S2x256x768 .bf16) (wk wv : FVec F S768x256 .bf16) : FVec F S512x512 .bf16 :=
  concatenate S512x512 1 [⟨S512x256, turned c (k0_pay2 x wk)⟩, ⟨S512x256, truncf .bf16 (k0_pay3 x wv) bitsLt_bf16_f32⟩]
    concatenates_S512x256_S512x256_S512x512_d1

/-- The printed block is this one. -/
theorem kvBlock_eq (c : Dev nD) (x : FVec F S2x256x768 .bf16) (wk wv : FVec F S768x256 .bf16) :
    k0_pay6 (k0_pay2 x wk) (k0_pay3 x wv) lanes (k0_pay4 c) (k0_pay5 lanes 64#32 0#32) = kvBlock c x wk wv := rfl

/-! ## One head -/

/-- A batch entry's rows lie in a block. -/
theorem rows_fit (b : Fin 2) : S512x512.Slices ![256 * b.val, 0] S256x512 := by revert b; decide
/-- A head's queries lie in the queries. -/
theorem query_fit (b : Fin 2) (h : Fin 4) : S512x256.Slices ![256 * b.val, 64 * h.val] S256x64 := by revert b h; decide
/-- A head's keys lie in its rows. -/
theorem key_fit (h : Fin 4) : S256x512.Slices ![0, 64 * h.val] S256x64 := by revert h; decide
/-- A head's values lie in its rows. -/
theorem value_fit (h : Fin 4) : S256x512.Slices ![0, 256 + 64 * h.val] S256x64 := by revert h; decide

/-- Head `h` of the queries of batch entry `b`. -/
def queryOf (b : Fin 2) (h : Fin 4) (q : FVec F S512x256 .bf16) : FVec F S256x64 .bf16 :=
  extractStridedSlice S256x64 ![256 * b.val, 64 * h.val] q (query_fit b h)
/-- Head `h` of the keys of batch entry `b`. -/
def keyOf (b : Fin 2) (h : Fin 4) (kv : FVec F S512x512 .bf16) : FVec F S256x64 .bf16 :=
  extractStridedSlice S256x64 ![0, 64 * h.val] (extractStridedSlice S256x512 ![256 * b.val, 0] kv (rows_fit b)) (key_fit h)
/-- Head `h` of the values of batch entry `b`. -/
def valueOf (b : Fin 2) (h : Fin 4) (kv : FVec F S512x512 .bf16) : FVec F S256x64 .bf16 :=
  extractStridedSlice S256x64 ![0, 256 + 64 * h.val] (extractStridedSlice S256x512 ![256 * b.val, 0] kv (rows_fit b))
    (value_fit h)

/-- The scaled scores of one key block. -/
def scores (q k : FVec F S256x64 .bf16) : FVec F S256x256 .f32 :=
  mulf (matmul dot_S256x64_S256x64_S256x256_1_1_0_0_n_n none q k (constant S256x256 .f32 0x00000000#32))
    (broadcast S256x256 (Scalar.ofBits .f32 0x3E000000#32))

/-- The running maximum after the block. -/
def topOf (q k : FVec F S256x64 .bf16) (m : FVec F S256x1 .f32) : FVec F S256x1 .f32 :=
  maximumf m (shapeCast S256x1 (multiReduction .maximumf [1] S256 (scores q k) 0xFF800000#32 reduces_S256x256_S256 (.inl rfl) rfl)
    shapeCasts_S256_S256x1)

/-- The block's unnormalised weights. -/
def weights (q k : FVec F S256x64 .bf16) (m : FVec F S256x1 .f32) : FVec F S256x256 .f32 :=
  exp (subf (scores q k) (broadcastTo S256x256 (topOf q k m) broadcasts_S256x1_S256x256))

/-- What the earlier sums are scaled by. -/
def decay (q k : FVec F S256x64 .bf16) (m : FVec F S256x1 .f32) : FVec F S256x1 .f32 := exp (subf m (topOf q k m))

/-- The running sum of weights after the block. -/
def massOf (q k : FVec F S256x64 .bf16) (m d : FVec F S256x1 .f32) : FVec F S256x1 .f32 :=
  addf (mulf d (decay q k m))
    (shapeCast S256x1 (multiReduction .add [1] S256 (weights q k m) 0x00000000#32 reduces_S256x256_S256 (.inl rfl) rfl)
      shapeCasts_S256_S256x1)

/-- The running weighted sum of values after the block. -/
def mixOf (q k v : FVec F S256x64 .bf16) (m : FVec F S256x1 .f32) (a : FVec F S256x64 .f32) : FVec F S256x64 .f32 :=
  addf (mulf a (broadcastTo S256x64 (decay q k m) broadcasts_S256x1_S256x64))
    (matmul dot_S256x256_S256x64_S256x64_1_0_0_1_n_n none (truncf .bf16 (weights q k m) bitsLt_bf16_f32) v
      (constant S256x64 .f32 0x00000000#32))

/-- The running maximum, sum of weights and weighted sum of one head. -/
structure Acc (F : FTy → Type) where
  top : FVec F S256x1 .f32
  mass : FVec F S256x1 .f32
  mix : FVec F S256x64 .f32

/-- The accumulators before any block. -/
def Acc.init : Acc F :=
  ⟨broadcast S256x1 (Scalar.ofBits .f32 0xF149F2CA#32), broadcast S256x1 (Scalar.ofBits .f32 0x00000000#32),
    broadcast S256x64 (Scalar.ofBits .f32 0x00000000#32)⟩

/-- The accumulators after one more key block. -/
def absorb (q k v : FVec F S256x64 .bf16) (s : Acc F) : Acc F :=
  ⟨topOf q k s.top, massOf q k s.top s.mass, mixOf q k v s.top s.mix⟩

/-- Head `h` of batch entry `b` after one more block `kv`. -/
def absorbKv (b : Fin 2) (h : Fin 4) (q : FVec F S512x256 .bf16) (kv : FVec F S512x512 .bf16) (s : Acc F) : Acc F :=
  absorb (queryOf b h q) (keyOf b h kv) (valueOf b h kv) s

/-- Head `h` of batch entry `b` after the four blocks. -/
def accOf (b : Fin 2) (h : Fin 4) (q : FVec F S512x256 .bf16) (kv₀ kv₁ kv₂ kv₃ : FVec F S512x512 .bf16) : Acc F :=
  absorbKv b h q kv₃ (absorbKv b h q kv₂ (absorbKv b h q kv₁ (absorbKv b h q kv₀ Acc.init)))

/-- The head's output: the weighted sum over the sum of weights. -/
def Acc.close (s : Acc F) : FVec F S256x64 .bf16 :=
  truncf .bf16 (divf s.mix (broadcastTo S256x64 s.mass broadcasts_S256x1_S256x64)) bitsLt_bf16_f32

/-- The heads of batch entry `b` side by side. -/
def rowOf (b : Fin 2) (q : FVec F S512x256 .bf16) (kv₀ kv₁ kv₂ kv₃ : FVec F S512x512 .bf16) : FVec F S256x256 .bf16 :=
  concatenate S256x256 1
    [⟨S256x64, (accOf b 0 q kv₀ kv₁ kv₂ kv₃).close⟩, ⟨S256x64, (accOf b 1 q kv₀ kv₁ kv₂ kv₃).close⟩,
      ⟨S256x64, (accOf b 2 q kv₀ kv₁ kv₂ kv₃).close⟩, ⟨S256x64, (accOf b 3 q kv₀ kv₁ kv₂ kv₃).close⟩]
    concatenates_S256x64_S256x64_S256x64_S256x64_S256x256_d1

/-- All heads of both batch entries. -/
def context (q : FVec F S512x256 .bf16) (kv₀ kv₁ kv₂ kv₃ : FVec F S512x512 .bf16) : FVec F S512x256 .bf16 :=
  concatenate S512x256 0 [⟨S256x256, rowOf 0 q kv₀ kv₁ kv₂ kv₃⟩, ⟨S256x256, rowOf 1 q kv₀ kv₁ kv₂ kv₃⟩]
    concatenates_S256x256_S256x256_S512x256_d0

/-- The block a load of one slot reads, as a matrix. -/
def asBlock (l : Vec F S1x512x512 .bf16) : FVec F S512x512 .bf16 := shapeCast S512x512 l shapeCasts_S1x512x512_S512x512

/-- The matrix as the slot of one is written. -/
def asSlot (b : FVec F S512x512 .bf16) : FVec F S1x512x512 .bf16 := shapeCast S1x512x512 b shapeCasts_S512x512_S1x512x512

end Cert.KernelIdeal.Attn
end
-- ==== Proof.Flat.lean ====
module

public import proofs.«01_k».proof.Proof.Values

/-! The kernel's body as one sequence of effects.

The printed body is spread over 25 parts. `body_flat` says that it is the sequence below: two signals and a wait on
the barrier, the loads, the own block stored, six transfers and the waits on them, and the result stored. -/

@[expose] public section
set_option maxRecDepth 65536
noncomputable section
namespace Cert.KernelIdeal.Attn
open Cert.KernelIdeal Cert.KernelIdeal.Gen
open Idealize.ShloMosaic Idealize.ShloMosaic.TcCoe
open Idealize.SL.Sem

variable {F : FTy → Type} [FloatOps F]

/-! ## Buffers and semaphores -/

/-- The staged input, -/
abbrev xM : Memref sig .tc .vmem S2x256x768 .bf16 := Memref.whole cc0_stg0_0
/-- the staged query, -/
abbrev wqM : Memref sig .tc .vmem S768x256 .bf16 := Memref.whole cc0_stg1_0
/-- key, -/
abbrev wkM : Memref sig .tc .vmem S768x256 .bf16 := Memref.whole cc0_stg2_0
/-- value -/
abbrev wvM : Memref sig .tc .vmem S768x256 .bf16 := Memref.whole cc0_stg3_0
/-- and output weights, -/
abbrev woM : Memref sig .tc .vmem S256x768 .bf16 := Memref.whole cc0_stg4_0
/-- and the staged result, each whole. -/
abbrev oM : Memref sig .tc .vmem S2x256x768 .f32 := Memref.whole cc0_stg5_0
/-- The four slots: the own block, the left neighbour's, the right neighbour's, the opposite device's. -/
abbrev sM : Memref sig .tc .vmem S4x512x512 .bf16 := Memref.whole cc0_scratch0

/-- A slot lies in the scratch buffer. -/
theorem slot_fit (k : Fin 4) : ∀ a, (![k.val, 0, 0] : Fin 3 → Nat) a + S1x512x512.size a ≤ S4x512x512.size a := by
  revert k; decide
/-- Half a slot lies in the scratch buffer. -/
theorem half_fit (k : Fin 4) (j : Fin 2) :
    ∀ a, (![k.val, 256 * j.val, 0] : Fin 3 → Nat) a + S1x256x512.size a ≤ S4x512x512.size a := by
  revert k j; decide
/-- A semaphore lies in its array. -/
theorem sem_fit (k : Fin 4) : ∀ a, (![k.val] : Fin 1 → Nat) a + S1.size a ≤ S4.size a := by revert k; decide

/-- The rectangle of slot `k`. -/
abbrev slotR (k : Fin 4) : Rect S4x512x512 := Rect.unit (s := S4x512x512) ![k.val, 0, 0] S1x512x512.size (slot_fit k)
/-- The rectangle of the first (`j = 0`) or last 256 rows of slot `k`. -/
abbrev halfR (k : Fin 4) (j : Fin 2) : Rect S4x512x512 :=
  Rect.unit (s := S4x512x512) ![k.val, 256 * j.val, 0] S1x256x512.size (half_fit k j)

/-- Slot `k` as a matrix. -/
abbrev slotM (k : Fin 4) : Memref sig .tc .vmem S512x512 .bf16 :=
  (sM.slice (slotR k) (fun _ => rfl)).squeeze S512x512 squeezes_S1x512x512_S512x512
/-- Half a slot as a matrix. -/
abbrev halfM (k : Fin 4) (j : Fin 2) : Memref sig .tc .vmem S256x512 .bf16 :=
  (sM.slice (halfR k j) (fun _ => rfl)).squeeze S256x512 squeezes_S1x256x512_S256x512

/-- A slot is made of whole words. -/
theorem slot_words (k : Fin 4) : (slotR k).WholeWords (EltTy.packing .bf16) := by
  fin_cases k
  · exact wordsbf16_S4x512x512_S1x512x512_0_0_0
  · exact wordsbf16_S4x512x512_S1x512x512_1_0_0
  · exact wordsbf16_S4x512x512_S1x512x512_2_0_0
  · decide
/-- Half a slot is made of whole words. -/
theorem half_words (k : Fin 4) (j : Fin 2) : (halfR k j).WholeWords (EltTy.packing .bf16) := by
  fin_cases k <;> fin_cases j <;> decide
/-- So a slot may be copied, -/
theorem slot_exact (k : Fin 4) : (slotM k).view.WordExact :=
  ((Memref.isWhole_whole cc0_scratch0).wordExact_slice rfl _ (slot_words k)).reshape _ _
/-- and so may half a slot. -/
theorem half_exact (k : Fin 4) (j : Fin 2) : (halfM k j).view.WordExact :=
  ((Memref.isWhole_whole cc0_scratch0).wordExact_slice rfl _ (half_words k j)).reshape _ _

/-- The kernel's four send semaphores and four receive semaphores. -/
abbrev sendS (k : Fin 4) : DmaSem sig :=
  ((cc0_scratch1.slice (Rect.unit (s := S4) ![k.val] S1.size (sem_fit k))).squeeze S_ squeezes_S1_S_ : DmaSems sig S_).sem
/-- Receive semaphore `k`. -/
abbrev recvS (k : Fin 4) : DmaSem sig :=
  ((cc0_scratch2.slice (Rect.unit (s := S4) ![k.val] S1.size (sem_fit k))).squeeze S_ squeezes_S1_S_ : DmaSems sig S_).sem
/-- The runtime's barrier semaphore. -/
abbrev barS : Sem sig := (SemArray.scalar (sig.barrier 0 rfl) : Sems sig S_).sem

/-! ## The sequence -/

/-- Slot `k` of this device sent to slot `l` of device `n`, over semaphore pair `s`. -/
abbrev sendSlot (k l s : Fin 4) (n : Dev nD) : Prog (TpuEff nD τ sig (Elt F) Λ₀ .tc) PUnit :=
  Prog.lift (.enqueueDma (slotM k) (.remote (Dev.tc n) (slotM l) (.dma (sendS s))) (.dma (recvS s)) (slot_exact k) (slot_exact l)
    ⟨⟨rfl, Or.inl rfl⟩, trivial⟩)
/-- Half `j` of slot `k` of this device sent to half `j` of slot `l` of device `n`, over semaphore pair `s`. -/
abbrev sendHalf (k l s : Fin 4) (j : Fin 2) (n : Dev nD) : Prog (TpuEff nD τ sig (Elt F) Λ₀ .tc) PUnit :=
  Prog.lift (.enqueueDma (halfM k j) (.remote (Dev.tc n) (halfM l j) (.dma (sendS s))) (.dma (recvS s)) (half_exact k j) (half_exact l j)
    ⟨⟨rfl, Or.inl rfl⟩, trivial⟩)
/-- A wait on `q` for a copy of slot `k` to slot `l`. -/
abbrev waitSlot (q : DmaSem sig) (k l : Fin 4) : Prog (TpuEff nD τ sig (Elt F) Λ₀ .tc) PUnit :=
  Prog.lift (.waitDma2 q (slotM k) (slotM l) (slot_exact k) (slot_exact l))
/-- A wait on `q` for a copy of half `j` of slot `k` to half `j` of slot `l`. -/
abbrev waitHalf (q : DmaSem sig) (k l : Fin 4) (j : Fin 2) : Prog (TpuEff nD τ sig (Elt F) Λ₀ .tc) PUnit :=
  Prog.lift (.waitDma2 q (halfM k j) (halfM l j) (half_exact k j) (half_exact l j))

/-- All of the input, or of the result. -/
abbrev xR : Rect S2x256x768 := Rect.unit (s := S2x256x768) ![0, 0, 0] S2x256x768.size inb_S2x256x768_S2x256x768_0_0_0
/-- All of the query, key or value weights. -/
abbrev wR : Rect S768x256 := Rect.unit (s := S768x256) ![0, 0] S768x256.size inb_S768x256_S768x256_0_0
/-- All of the output weights. -/
abbrev woR : Rect S256x768 := Rect.unit (s := S256x768) ![0, 0] S256x768.size inb_S256x768_S256x768_0_0

/-- Slot `k` loaded. -/
abbrev loadSlot (k : Fin 4) : Prog (TpuEff nD τ sig (Elt F) Λ₀ .tc) (Vec F S1x512x512 .bf16) :=
  Prog.lift (.load sM (slotR k).toLoadRect (View.loadsAt_vmem h_S1x512x512))

/-- The body, effect by effect. -/
def flat : Prog (TpuEff nD τ sig (Elt F) Λ₀ .tc) PUnit := do
  let c : Dev nD ← Prog.lift .deviceId
  semSignalWord (⟨k0_dev1 c, k0_dev1_lt c⟩ : Dev nD) barS 1#32
  semSignalWord (⟨k0_dev2 c, k0_dev2_lt c⟩ : Dev nD) barS 1#32
  semWaitWord barS 2#32
  let x : Vec F S2x256x768 .bf16 ← Prog.lift (.load xM xR.toLoadRect (View.loadsAt_vmem h_S2x256x768))
  let wk : Vec F S768x256 .bf16 ← Prog.lift (.load wkM wR.toLoadRect (View.loadsAt_vmem h_S768x256))
  let wv : Vec F S768x256 .bf16 ← Prog.lift (.load wvM wR.toLoadRect (View.loadsAt_vmem h_S768x256))
  let _ : Vec F S1x512x512 .bf16 ← loadSlot 0
  Prog.lift (.store sM (slotR 0) (asSlot (kvBlock c x wk wv)) Finset.univ
    (View.stores_vmem h_S1x512x512 ((Memref.isWhole_whole cc0_scratch0).storeExact_slice rfl _ packedbf16_S4x512x512_S1x512x512_0_0_0) (fun _ => rfl))
    (.inl rfl))
  sendSlot 0 1 0 ⟨k0_dev3 c, k0_dev3_lt c⟩
  sendSlot 0 2 1 ⟨k0_dev4 c, k0_dev4_lt c⟩
  let wq : Vec F S768x256 .bf16 ← Prog.lift (.load wqM wR.toLoadRect (View.loadsAt_vmem h_S768x256))
  waitSlot (recvS 0) 0 1
  sendHalf 1 3 2 0 ⟨k0_dev5 c, k0_dev5_lt c⟩
  waitSlot (recvS 1) 0 2
  sendHalf 2 3 3 1 ⟨k0_dev6 c, k0_dev6_lt c⟩
  let l₁ : Vec F S1x512x512 .bf16 ← loadSlot 1
  let l₂ : Vec F S1x512x512 .bf16 ← loadSlot 2
  waitHalf (recvS 2) 1 3 0
  waitHalf (recvS 3) 2 3 1
  let l₃ : Vec F S1x512x512 .bf16 ← loadSlot 3
  let wo : Vec F S256x768 .bf16 ← Prog.lift (.load woM woR.toLoadRect (View.loadsAt_vmem h_S256x768))
  let _ : Vec F S2x256x768 .f32 ← Prog.lift (.load oM xR.toLoadRect (View.loadsAt_vmem h_S2x256x768))
  Prog.lift (.store oM xR
    (k0_pay271 (context (queries c x wq) (kvBlock c x wk wv) (asBlock l₁) (asBlock l₂) (asBlock l₃)) wo) Finset.univ
    (View.stores_vmem_bits_univ h_S2x256x768 rfl) (.inl rfl))
  waitSlot (sendS 0) 1 0
  waitSlot (sendS 1) 2 0
  waitHalf (sendS 2) 3 1 0
  waitHalf (sendS 3) 3 2 1
  pure ⟨⟩

set_option maxHeartbeats 4000000 in
/-- The printed body on the launch's own buffers is the sequence above. -/
theorem body_flat :
    cc0__body (F := F) xM (Memref.isWhole_whole _) wqM (Memref.isWhole_whole _) wkM (Memref.isWhole_whole _) wvM (Memref.isWhole_whole _)
      woM (Memref.isWhole_whole _) oM (Memref.isWhole_whole _) sM (Memref.isWhole_whole _) cc0_scratch1 cc0_scratch2 = flat := by
  rw [cc0__body_eq_skeleton]
  rfl

end Cert.KernelIdeal.Attn
end
-- ==== Proof.Slots.lean ====
module

public import proofs.«01_k».proof.Proof.Flat
public import Idealize.ShloMosaic.Lib.ViewIndex
public import Idealize.ShloMosaic.Lib.Pipeline.Value
public import Idealize.ShloMosaic.Lib.Pipeline.ValueKit.Geometry
public import Idealize.ShloMosaic.Lib.Exec.Geometry

/-! The slots of the scratch buffer: which elements each holds, and what reading and writing one does when the buffer
is described by the four blocks it holds. -/

@[expose] public section
noncomputable section
namespace Cert.KernelIdeal.Attn
open Cert.KernelIdeal Cert.KernelIdeal.Gen
open Idealize.ShloMosaic Idealize.ShloMosaic.TcCoe

variable {F : FTy → Type} [FloatOps F]

/-- The elements of slot `k`. -/
def slotSet (k : Fin 4) : Finset S4x512x512.Idx := (slotR k).set
/-- The elements of half `j` of slot `k`. -/
def halfSet (k : Fin 4) (j : Fin 2) : Finset S4x512x512.Idx := (halfR k j).set

/-- The entries of a slot's view. -/
theorem slotM_set (k : Fin 4) : (slotM k).view.set = slotSet k :=
  (Memref.set_view_squeeze _ _).trans (View.set_slice_whole cc0_scratch0 (slotR k))
/-- The entries of half a slot's view. -/
theorem halfM_set (k : Fin 4) (j : Fin 2) : (halfM k j).view.set = halfSet k j :=
  (Memref.set_view_squeeze _ _).trans (View.set_slice_whole cc0_scratch0 (halfR k j))

/-- When an entry lies in a slot. -/
theorem mem_slotSet {k : Fin 4} {i : S4x512x512.Idx} : i ∈ slotSet k ↔ (i 0).val = k.val := by
  unfold slotSet; rw [Rect.mem_set_unit]
  constructor
  · intro h
    have h0 := h 0
    simp only [Matrix.cons_val_zero] at h0
    have : S1x512x512.size 0 = 1 := rfl
    omega
  · intro h a
    have ha := (i a).isLt
    fin_cases a
    · simp only [Fin.zero_eta, Matrix.cons_val_zero]; have : S1x512x512.size 0 = 1 := rfl; omega
    · exact ⟨Nat.zero_le _, by simpa using ha⟩
    · exact ⟨Nat.zero_le _, by simpa using ha⟩

/-- When an entry lies in half a slot. -/
theorem mem_halfSet {k : Fin 4} {j : Fin 2} {i : S4x512x512.Idx} :
    i ∈ halfSet k j ↔ (i 0).val = k.val ∧ 256 * j.val ≤ (i 1).val ∧ (i 1).val < 256 * j.val + 256 := by
  unfold halfSet; rw [Rect.mem_set_unit]
  constructor
  · intro h
    have h0 := h 0
    have h1 := h 1
    simp only [Matrix.cons_val_zero, Matrix.cons_val_one] at h0 h1
    have : S1x256x512.size 0 = 1 := rfl
    have : S1x256x512.size 1 = 256 := rfl
    omega
  · rintro ⟨h, h1, h2⟩ a
    have ha := (i a).isLt
    fin_cases a
    · simp only [Fin.zero_eta, Matrix.cons_val_zero]; have : S1x256x512.size 0 = 1 := rfl; omega
    · exact ⟨h1, h2⟩
    · exact ⟨Nat.zero_le _, by simpa using ha⟩

/-- Different slots share no entry. -/
theorem slotSet_disjoint {k l : Fin 4} (h : k ≠ l) : Disjoint (slotSet k) (slotSet l) :=
  Finset.disjoint_left.mpr fun i hi hj => h (Fin.ext ((mem_slotSet.mp hi).symm.trans (mem_slotSet.mp hj)))

/-- Nor do the halves of a slot. -/
theorem halfSet_disjoint (k : Fin 4) : Disjoint (halfSet k 0) (halfSet k 1) :=
  Finset.disjoint_left.mpr fun i hi hj => by
    have h0 := (mem_halfSet.mp hi).2.2
    have h1 := (mem_halfSet.mp hj).2.1
    have e0 : ((0 : Fin 2) : ℕ) = 0 := rfl
    have e1 : ((1 : Fin 2) : ℕ) = 1 := rfl
    omega

/-- A slot is its two halves. -/
theorem slotSet_halves (k : Fin 4) : slotSet k = halfSet k 0 ∪ halfSet k 1 := by
  ext i
  rw [Finset.mem_union, mem_slotSet, mem_halfSet, mem_halfSet]
  have : (i 1).val < 512 := (i 1).isLt
  have e0 : ((0 : Fin 2) : ℕ) = 0 := rfl
  have e1 : ((1 : Fin 2) : ℕ) = 1 := rfl
  omega

/-- The scratch buffer is its four slots. -/
theorem univ_slots : (Finset.univ : Finset S4x512x512.Idx) = slotSet 0 ∪ (slotSet 1 ∪ (slotSet 2 ∪ slotSet 3)) := by
  ext i
  simp only [Finset.mem_union, Finset.mem_univ, mem_slotSet, true_iff]
  have : (i 0).val < 4 := (i 0).isLt
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  omega

/-! ## Contents by blocks -/

/-- An element's place in its slot. -/
def place (i : S4x512x512.Idx) : S1x512x512.Idx := fun a => match a with
  | ⟨0, _⟩ => (0 : Fin 1)
  | ⟨1, _⟩ => (i 1 : Fin 512)
  | ⟨2, _⟩ => (i 2 : Fin 512)

/-- The scratch buffer that holds block `B k` in slot `k`. -/
def stack (B : Fin 4 → FVec F S512x512 .bf16) : (cc0_scratch0 : Ref sig .tc).ty.Contents (Elt F) :=
  fun i => asSlot (B (i 0 : Fin 4)) (place i)

/-- Half `j` of a block, as a slot of one holds it. -/
def halfBlock (j : Fin 2) (b : FVec F S512x512 .bf16) : Vec F S1x256x512 .bf16 :=
  fun i => asSlot b (place ((halfR 0 j).emb i))

/-- A slot of four stacked blocks reads as its block. -/
theorem read_slot (B : Fin 4 → FVec F S512x512 .bf16) (k : Fin 4) :
    (sM.view.readAt (Elt F) (slotR k).toLoadRect (stack B) : Vec F S1x512x512 .bf16) = asSlot (B k) := by
  funext i
  have hk : ((slotR k).emb i 0 : Fin 4) = k := Fin.ext (by
    show k.val + 1 * (i 0).val = k.val
    have : (i 0).val < 1 := (i 0).isLt
    omega)
  have hp : place ((slotR k).emb i) = i := by
    funext a
    refine Fin.ext ?_
    fin_cases a
    · have : (i 0).val < 1 := (i 0).isLt
      show 0 = (i 0).val
      omega
    · show 0 + 1 * (i 1).val = (i 1).val; omega
    · show 0 + 1 * (i 2).val = (i 2).val; omega
  show asSlot (B ((slotR k).emb i 0 : Fin 4)) (place ((slotR k).emb i)) = _
  rw [hk, hp]

/-- Half a slot reads as half its block. -/
theorem read_half (B : Fin 4 → FVec F S512x512 .bf16) (k : Fin 4) (j : Fin 2) :
    (sM.view.readAt (Elt F) (halfR k j).toLoadRect (stack B) : Vec F S1x256x512 .bf16) = halfBlock j (B k) := by
  funext i
  have hk : ((halfR k j).emb i 0 : Fin 4) = k := Fin.ext (by
    show k.val + 1 * (i 0).val = k.val
    have : (i 0).val < 1 := (i 0).isLt
    omega)
  show asSlot (B ((halfR k j).emb i 0 : Fin 4)) (place ((halfR k j).emb i)) = asSlot (B k) (place ((halfR 0 j).emb i))
  rw [hk]
  congr 1

/-- Two buffers that read alike through a view agree on its elements. -/
theorem agree_of_read {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  exact View.eq_of_read_eq (v := v) (congrFun h x)

/-- A copy of slot `k` of stacked blocks reads block `k`. -/
theorem read_slotM (B : Fin 4 → FVec F S512x512 .bf16) (k : Fin 4) :
    (slotM k).view.read (Elt F) (stack B) = shapeCast S512x512 (asSlot (B k)) shapeCasts_S1x512x512_S512x512 := by
  rw [← read_slot B k]; rfl

/-- Half a slot and half a block have equally many entries. -/
theorem halfCast : S1x256x512.ShapeCasts S256x512 := by decide

/-- A copy of half a slot reads half its block. -/
theorem read_halfM (B : Fin 4 → FVec F S512x512 .bf16) (k : Fin 4) (j : Fin 2) :
    (halfM k j).view.read (Elt F) (stack B) = shapeCast S256x512 (halfBlock j (B k)) halfCast := by
  rw [← read_half B k j]; rfl

/-- What a transfer of slot `k` into slot `l` leaves there. -/
theorem landed_slot (B B' : Fin 4 → FVec F S512x512 .bf16) (k l : Fin 4) (h : B k = B' l) (f : (cc0_scratch0 : Ref sig .tc).ty.Contents (Elt F)) :
    ∀ i ∈ (slotM l).view.set, (slotM l).view.write (Elt F) f ((slotM k).view.read (Elt F) (stack B)) Finset.univ i = stack B' i :=
  agree_of_read (slotM l).view (by rw [View.read_write_univ, read_slotM, read_slotM, h])

/-- What a transfer of half a slot leaves. -/
theorem landed_half (B B' : Fin 4 → FVec F S512x512 .bf16) (k l : Fin 4) (j : Fin 2) (h : B k = B' l)
    (f : (cc0_scratch0 : Ref sig .tc).ty.Contents (Elt F)) :
    ∀ i ∈ (halfM l j).view.set, (halfM l j).view.write (Elt F) f ((halfM k j).view.read (Elt F) (stack B)) Finset.univ i = stack B' i :=
  agree_of_read (halfM l j).view (by rw [View.read_write_univ, read_halfM, read_halfM, h])

/-- What storing a block in slot `k` leaves there. -/
theorem stored_slot (B : Fin 4 → FVec F S512x512 .bf16) (k : Fin 4) (f : (cc0_scratch0 : Ref sig .tc).ty.Contents (Elt F)) :
    ∀ i ∈ slotSet k, (sM.access (slotR k) : View sig .tc _ _ _).write (Elt F) f (asSlot (B k)) Finset.univ i = stack B i := by
  have h := agree_of_read (F := F) (sM.access (slotR k) : View sig .tc _ _ _) (f := (sM.access (slotR k) : View sig .tc _ _ _).write (Elt F) f (asSlot (B k)) Finset.univ)
    (g := stack B) (by rw [View.read_write_univ]; exact (read_slot B k).symm)
  intro i hi
  exact h i (by rw [show (sM.access (slotR k) : View sig .tc _ _ _).set = slotSet k from View.set_slice_whole cc0_scratch0 (slotR k)]; exact hi)

/-- A block put in a slot and taken out is unchanged. -/
theorem asBlock_asSlot (b : FVec F S512x512 .bf16) : asBlock (asSlot b) = b := shapeCast_shapeCast _ _ _

end Cert.KernelIdeal.Attn
end
-- ==== Proof.Ring.lean ====
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

/-! The protocol of the four devices.

Each device has nine cells: the runtime's barrier semaphore, four send semaphores and four receive semaphores. Every
cell has one round. A device's signal to a neighbour's barrier hands that neighbour the parts of the scratch buffer
the neighbour will write; a transfer's receive cell hands the receiver the written part, holding the block it must
hold; a transfer's send cell gives the sender its lent share back. -/

@[expose] public section
noncomputable section
namespace Cert.KernelIdeal.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the schedule. -/
abbrev UB : Type := URounds (GSem nD τ sig) Bool
/-- The ghost state of the run: the pipeline's and the schedule's. -/
abbrev UU : Type := UR sig nD τ × UB

local notation "𝕄" => MT nD τ sig Unit (Elt F) ℕ UU ℕ

/-- Where the pipeline's part lies. -/
abbrev EP : Emb (UR sig nD τ) (MT nD τ sig Unit (Elt F) ℕ UU ℕ) := embL
/-- Where the schedule's part lies. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The ring of devices -/

set_option backward.proofsInPublic true in
/-- The device `n` places further round. -/
def turn (n : ℕ) (c : Dev nD) : Dev nD := ⟨(c.val + n) % 4, Nat.mod_lt _ (by decide)⟩

/-- The left neighbour. -/
abbrev left (c : Dev nD) : Dev nD := turn 3 c
/-- The right neighbour. -/
abbrev right (c : Dev nD) : Dev nD := turn 1 c

/-- The left neighbour of the right one is oneself. -/
theorem left_right (c : Dev nD) : left (right c) = c := by revert c; decide
/-- And the other way round. -/
theorem right_left (c : Dev nD) : right (left c) = c := by revert c; decide

/-- The ring one place to the right. -/
def rightE : Dev nD ≃ Dev nD := ⟨right, left, left_right, right_left⟩

/-- Whether transfer `s` goes to the right (0 and 2) or to the left (1 and 3). -/
def peerE (s : Fin 4) : Dev nD ≃ Dev nD := if s.val % 2 = 0 then rightE else rightE.symm
/-- The receiver of transfer `s` of device `c`. -/
abbrev peer (s : Fin 4) (c : Dev nD) : Dev nD := peerE s c

/-- The first signal goes to the left, -/
theorem dev1_eq (c : Dev nD) : (⟨k0_dev1 c, k0_dev1_lt c⟩ : Dev nD) = left c := Fin.ext (k0_dev1_eq c)
/-- the second to the right, -/
theorem dev2_eq (c : Dev nD) : (⟨k0_dev2 c, k0_dev2_lt c⟩ : Dev nD) = right c := Fin.ext (k0_dev2_eq c)
/-- the first copy to its receiver, -/
theorem dev3_eq (c : Dev nD) : (⟨k0_dev3 c, k0_dev3_lt c⟩ : Dev nD) = peer 0 c := Fin.ext (k0_dev3_eq c)
/-- the second, -/
theorem dev4_eq (c : Dev nD) : (⟨k0_dev4 c, k0_dev4_lt c⟩ : Dev nD) = peer 1 c := Fin.ext (k0_dev4_eq c)
/-- the third -/
theorem dev5_eq (c : Dev nD) : (⟨k0_dev5 c, k0_dev5_lt c⟩ : Dev nD) = peer 2 c := Fin.ext (k0_dev5_eq c)
/-- and the fourth to theirs. -/
theorem dev6_eq (c : Dev nD) : (⟨k0_dev6 c, k0_dev6_lt c⟩ : Dev nD) = peer 3 c := Fin.ext (k0_dev6_eq c)

/-! ## Cells -/

/-- A device's own semaphores: `(false, s)` the send semaphore of transfer `s`, `(true, s)` its receive semaphore. -/
abbrev Own : Type := Bool × Fin 4
/-- Those and the barrier (`none`). -/
abbrev Cell : Type := Option Own

/-- The semaphore of an own cell. -/
abbrev osem : Own → SemLoc sig := fun k => match k with
  | (false, s) => .dma (sendS s)
  | (true, s) => .dma (recvS s)
/-- The semaphore of a cell. -/
abbrev csem : Cell → SemLoc sig := fun k => match k with
  | none => .reg barS
  | some k => osem k

/-- Different cells of a device have different semaphores. -/
theorem csem_inj : Function.Injective csem := by decide

/-- The cell of semaphore `k` of a device. -/
abbrev kcell (ck : Dev nD × Cell) : GSem nD τ sig := ((ck.1 : Thread nD τ), csem ck.2)
/-- The barrier cell of device `c`. -/
abbrev barCell (c : Dev nD) : GSem nD τ sig := kcell (c, none)
/-- Its send cell of copy `s`. -/
abbrev sendCell (c : Dev nD) (s : Fin 4) : GSem nD τ sig := kcell (c, some (false, s))
/-- Its receive cell of copy `s`. -/
abbrev recvCell (c : Dev nD) (s : Fin 4) : GSem nD τ sig := kcell (c, some (true, s))

/-- Different cells are different. -/
theorem kcell_inj : Function.Injective (kcell : Dev nD × Cell → GSem nD τ sig) := by
  rintro ⟨c, k⟩ ⟨d, l⟩ h
  have h1 : c = d := congrArg (fun g : GSem nD τ sig => g.1.1) h
  have h2 : k = l := csem_inj (congrArg Prod.snd h)
  rw [h1, h2]

/-- When two cells are the same. -/
theorem kcell_eq_iff {c d : Dev nD} {k l : Cell} : kcell (c, k) = kcell (d, l) ↔ c = d ∧ k = l := by
  rw [kcell_inj.eq_iff, Prod.mk.injEq]

open Classical in
/-- Which of a device's nine semaphores a location is, if any. -/
def which (sm : SemLoc sig) : Option Cell := if h : ∃ k, csem k = sm then some h.choose else none

/-- The cell of a cell's semaphore is that cell. -/
theorem which_csem (k : Cell) : which (csem k) = some k := by
  have h : ∃ l, csem l = csem k := ⟨k, rfl⟩
  unfold which
  rw [dif_pos h, csem_inj h.choose_spec]

/-- Any other semaphore has no cell. -/
theorem which_eq_none {sm : SemLoc sig} (h : ∀ k, csem k ≠ sm) : which sm = none := by
  unfold which
  rw [dif_neg fun ⟨k, hk⟩ => h k hk]

/-- The credit of transfer `s`: a whole block for the first two, half a block for the last two. -/
def amt (s : Fin 4) : ℕ := match s with
  | 0 => (slotM 1).view.dmaCredit
  | 1 => (slotM 2).view.dmaCredit
  | 2 => (halfM 3 0).view.dmaCredit
  | 3 => (halfM 3 1).view.dmaCredit

/-- Every copy counts for something. -/
theorem amt_pos (s : Fin 4) : 0 < amt s := by
  fin_cases s <;> exact View.dmaCredit_pos _ (by decide)

/-! ## Contents -/

/-- The staged input of device `c`. -/
def xAt (c : Dev nD) : (cc0_stg0_0 : Ref sig .tc).ty.Contents (Elt F) :=
  (win0_0.blk (0 : Fin 1)).view.read (Elt F) ((s₀ m ρ).mem ((c : Thread nD τ).loc main_arg0))
/-- Its staged query weights. -/
def wqAt (c : Dev nD) : (cc0_stg1_0 : Ref sig .tc).ty.Contents (Elt F) :=
  (win0_1.blk (0 : Fin 1)).view.read (Elt F) ((s₀ m ρ).mem ((c : Thread nD τ).loc main_arg1))
/-- Its staged key weights. -/
def wkAt (c : Dev nD) : (cc0_stg2_0 : Ref sig .tc).ty.Contents (Elt F) :=
  (win0_2.blk (0 : Fin 1)).view.read (Elt F) ((s₀ m ρ).mem ((c : Thread nD τ).loc main_arg2))
/-- Its staged value weights. -/
def wvAt (c : Dev nD) : (cc0_stg3_0 : Ref sig .tc).ty.Contents (Elt F) :=
  (win0_3.blk (0 : Fin 1)).view.read (Elt F) ((s₀ m ρ).mem ((c : Thread nD τ).loc main_arg3))
/-- Its staged output weights. -/
def woAt (c : Dev nD) : (cc0_stg4_0 : Ref sig .tc).ty.Contents (Elt F) :=
  (win0_4.blk (0 : Fin 1)).view.read (Elt F) ((s₀ m ρ).mem ((c : Thread nD τ).loc main_arg4))

/-- The block device `c` sends round. -/
def blkAt (c : Dev nD) : FVec F S512x512 .bf16 := kvBlock c (xAt m ρ c) (wkAt m ρ c) (wvAt m ρ c)

/-- Whose block slot `k` of device `c` holds: its own, its left's, its right's, the opposite device's. -/
def source (c : Dev nD) (k : Fin 4) : Dev nD := match k with
  | 0 => c
  | 1 => left c
  | 2 => right c
  | 3 => turn 2 c

/-- The scratch buffer of device `c` when everything has landed. -/
def full (c : Dev nD) : (cc0_scratch0 : Ref sig .tc).ty.Contents (Elt F) := stack fun k => blkAt m ρ (source c k)

/-- The kernel's result on device `c`. -/
def outAt (c : Dev nD) : (cc0_stg5_0 : Ref sig .tc).ty.Contents (Elt F) :=
  k0_pay271 (context (queries c (xAt m ρ c) (wqAt m ρ c)) (blkAt m ρ (source c 0)) (blkAt m ρ (source c 1)) (blkAt m ρ (source c 2))
    (blkAt m ρ (source c 3))) (woAt m ρ c)

/-- Part `S` of device `c`'s scratch buffer at share `q`, holding `f`. -/
def part (c : Dev nD) (S : Finset S4x512x512.Idx) (q : PosShare TreeShare) (f : (cc0_scratch0 : Ref sig .tc).ty.Contents (Elt F)) : sProp 𝕄 :=
  ((c : Thread nD τ).loc cc0_scratch0) ↦[S]{q} f

omit [FloatOps F] in
/-- A part may be handed over through a cell. -/
instance part_storable (c : Dev nD) (S q f) : BI.Storable (upEmb : UEmb _ 𝕄) (part (F := F) c S q f) := by unfold part; infer_instance

/-- The part transfer `s` writes, on the receiver. -/
def into (s : Fin 4) : Finset S4x512x512.Idx := match s with
  | 0 => slotSet 1
  | 1 => slotSet 2
  | 2 => halfSet 3 0
  | 3 => halfSet 3 1
/-- The part transfer `s` reads, on the sender, -/
def out (s : Fin 4) : Finset S4x512x512.Idx := match s with
  | 0 => slotSet 0
  | 1 => slotSet 0
  | 2 => halfSet 1 0
  | 3 => halfSet 2 1
/-- and the share it borrows. -/
def lent (s : Fin 4) : PosShare TreeShare := match s with
  | 1 => fullShare.right
  | _ => fullShare.left

/-! ## The schedule -/

/-- The neighbour whose signal is duty `d` of a device's barrier cell. -/
def signaller (d : Bool) (c : Dev nD) : Dev nD := if d then left c else right c
/-- The two transfers a device makes to that neighbour. -/
def first (d : Bool) : Fin 4 := if d then 1 else 0
/-- The later of the two. -/
def second (d : Bool) : Fin 4 := if d then 3 else 2

/-- What a neighbour's signal hands a device: the parts of the neighbour's scratch buffer it will write. -/
def barPay (c : Dev nD) (d : Bool) : sProp 𝕄 :=
  iprop((∃ f, part (signaller d c) (into (first d)) fullShare f) ∗ (∃ f, part (signaller d c) (into (second d)) fullShare f))
/-- What the send cell of copy `s` gives back: the lent share of what was sent. -/
def sendPay (c : Dev nD) (s : Fin 4) : sProp 𝕄 := part c (out s) (lent s) (full m ρ c)
/-- What a landing of copy `s` hands over: its target, with the contents. -/
def recvPay (c : Dev nD) (s : Fin 4) : sProp 𝕄 := part c (into s) fullShare (full m ρ c)

/-- The duties of a cell. -/
def dutiesOf : Cell → Finset Bool
  | none => Finset.univ
  | some _ => {false}
/-- The amount of each of its duties. -/
def amountOf : Cell → ℕ
  | none => 1
  | some (_, s) => amt s
/-- The payload of each of its duties. -/
def payOf (c : Dev nD) : Cell → Bool → sProp 𝕄
  | none, d => barPay c d
  | some (false, s), _ => sendPay m ρ c s
  | some (true, s), _ => recvPay m ρ c s

/-- Every duty counts for something. -/
theorem amountOf_pos (k : Cell) : 0 < amountOf k := by
  rcases k with _ | ⟨b, s⟩
  · exact Nat.one_pos
  · exact amt_pos s

/-- Every payload may be handed over through a cell. -/
instance payOf_storable (c : Dev nD) (k : Cell) (d : Bool) : BI.Storable (upEmb : UEmb _ 𝕄) (payOf (F := F) m ρ c k d) := by
  rcases k with _ | ⟨_ | _, s⟩
  · unfold payOf barPay; infer_instance
  · unfold payOf sendPay; infer_instance
  · unfold payOf recvPay; infer_instance

/-- One round: the duties, amounts and payloads of the nine cells of each TensorCore. -/
def ringRd : Rounds.Schedule (GSem nD τ sig) Bool 𝕄 where
  duties g r := if r = 0 ∧ g.1.2 = .tc then (which g.2).elim ∅ dutiesOf else ∅
  unitless _ := False
  amount g _ _ := (which g.2).elim 1 amountOf
  payload g _ d := (which g.2).elim iprop(emp) fun k => payOf m ρ g.1.1 k d
  amount_pos g _ _ _ := by
    rcases which g.2 with _ | k
    · exact Nat.one_pos
    · exact amountOf_pos k

/-- And so may the payloads of the schedule. -/
instance ringRd_storable (g : GSem nD τ sig) (r : ℕ) (d : Bool) : BI.Storable (upEmb : UEmb _ 𝕄) ((ringRd (F := F) m ρ).payload g r d) := by
  show BI.Storable upEmb ((which g.2).elim iprop(emp) fun k => payOf m ρ g.1.1 k d)
  rcases which g.2 with _ | k
  · show BI.Storable upEmb (iprop(emp)); infer_instance
  · show BI.Storable upEmb (payOf m ρ g.1.1 k d); infer_instance

section Sched
variable (c : Dev nD) (k : Cell)

/-- The duties of a cell in its one round. -/
theorem duties_eq : (ringRd (F := F) m ρ).duties (kcell (c, k)) 0 = dutiesOf k := by
  dsimp only [ringRd]; rw [if_pos ⟨rfl, rfl⟩, which_csem]; rfl
/-- There are none in later rounds. -/
theorem duties_later (g : GSem nD τ sig) : ∀ r, 1 ≤ r → (ringRd (F := F) m ρ).duties g r = ∅ :=
  fun r hr => by dsimp only [ringRd]; rw [if_neg fun h => by omega]
/-- The amount of each duty. -/
theorem amount_eq (d : Bool) : (ringRd (F := F) m ρ).amount (kcell (c, k)) 0 d = amountOf k := by
  dsimp only [ringRd]; rw [which_csem]; rfl
/-- The payload of each duty. -/
theorem payload_eq (d : Bool) : (ringRd (F := F) m ρ).payload (kcell (c, k)) 0 d = payOf m ρ c k d := by
  dsimp only [ringRd]; rw [which_csem]; rfl

/-- A barrier cell expects two signals. -/
theorem expect_bar : (ringRd (F := F) m ρ).expect (barCell c) 0 = 2 := by
  unfold Schedule.expect Schedule.amountOf
  rw [duties_eq, Finset.sum_congr rfl fun d _ => amount_eq m ρ c none d]
  rfl
/-- An own cell expects the amount of its copy. -/
theorem expect_own (o : Own) : (ringRd (F := F) m ρ).expect (kcell (c, some o)) 0 = amt o.2 := by
  unfold Schedule.expect Schedule.amountOf
  rw [duties_eq]
  show ∑ d ∈ {false}, _ = _
  rw [Finset.sum_singleton, amount_eq]
  rfl

/-- The barrier wait returns both signals' payloads. -/
theorem rest_bar : bigSep ((ringRd (F := F) m ρ).duties (barCell c) 0 \ ∅) (fun d => (ringRd (F := F) m ρ).payload (barCell c) 0 d)
    = iprop(barPay c false ∗ barPay c true) := by
  rw [Finset.sdiff_empty, duties_eq, bigSep_congr (fun d _ => payload_eq m ρ c none d)]
  exact bigSep_univ_eq_bigSepL [false, true] (by decide) (by decide) _
/-- A send wait returns the lent share. -/
theorem rest_send (s : Fin 4) : bigSep ((ringRd (F := F) m ρ).duties (sendCell c s) 0 \ ∅) (fun d => (ringRd (F := F) m ρ).payload (sendCell c s) 0 d)
    = sendPay m ρ c s := by
  rw [Finset.sdiff_empty, duties_eq]
  show bigSep {false} _ = _
  rw [bigSep_singleton, payload_eq]; rfl
/-- A receive wait returns what landed. -/
theorem rest_recv (s : Fin 4) : bigSep ((ringRd (F := F) m ρ).duties (recvCell c s) 0 \ ∅) (fun d => (ringRd (F := F) m ρ).payload (recvCell c s) 0 d)
    = recvPay m ρ c s := by
  rw [Finset.sdiff_empty, duties_eq]
  show bigSep {false} _ = _
  rw [bigSep_singleton, payload_eq]; rfl

end Sched

/-! ## What a device owes, and the levels -/

/-- What transfer `s` of device `c` pays the receiver. -/
abbrev due (s : Fin 4) (c : Dev nD) : CellTallies nD τ sig Unit := tallyAt (recvCell (peer s c) s) () (amt s)

/-- What is owed before the last transfer, before the last two, and so on up to the launch. -/
def O₅ (c : Dev nD) : CellTallies nD τ sig Unit := 0 + due 3 c
/-- Before the last two. -/
def O₄ (c : Dev nD) : CellTallies nD τ sig Unit := O₅ c + due 2 c
/-- Before the last three. -/
def O₃ (c : Dev nD) : CellTallies nD τ sig Unit := O₄ c + due 1 c
/-- Before all four. -/
def O₂ (c : Dev nD) : CellTallies nD τ sig Unit := O₃ c + due 0 c
/-- Before the second signal. -/
def O₁ (c : Dev nD) : CellTallies nD τ sig Unit := O₂ c + tallyAt (barCell (right c)) () 1
/-- Before the first signal, so at launch. -/
def O₀ (c : Dev nD) : CellTallies nD τ sig Unit := O₁ c + tallyAt (barCell (left c)) () 1

/-- The levels are stated of the cells of the device cores. -/
def L (g : GSem nD τ sig) : Finset Unit := if g.1.2 = .tc then {()} else ∅

/-- The level of a cell: barrier 1, the first two receive cells 2, the last two 3, all else 0. -/
def levelOf : Cell → ℕ
  | none => 1
  | some (false, _) => 0
  | some (true, s) => if s.val < 2 then 2 else 3
/-- The level of a cell. -/
def lv (g : GSem nD τ sig) (_ : Unit) : ℕ := (which g.2).elim 0 levelOf

/-- The level of a cell of the schedule. -/
theorem lv_kcell (c : Dev nD) (k : Cell) : lv (kcell (c, k)) () = levelOf k := by unfold lv; rw [which_csem]; rfl

/-- Other threads' cells have no level. -/
theorem L_of_ne (g : GSem nD τ sig) (h : g.1.2 ≠ .tc) : L g = ∅ := if_neg h
/-- A device core's cells have one. -/
theorem L_tc (c : Dev nD) (sm : SemLoc sig) : L ((c : Thread nD τ), sm) = {()} := if_pos rfl

/-- Everything in `O` is owed to a cell of level at least `n`. -/
def Above (n : ℕ) (O : CellTallies nD τ sig Unit) : Prop :=
  ∀ g u, 0 < O g u → ∃ c k, g = kcell (c, k) ∧ n ≤ levelOf k

/-- Where nothing is owed, all of it is above any level. -/
theorem above_zero (n : ℕ) : Above n 0 := fun g u h => absurd h (Nat.lt_irrefl 0)
/-- Owing one more cell of level at least `n`. -/
theorem above_add {n : ℕ} {O : CellTallies nD τ sig Unit} (h : Above n O) (c : Dev nD) (k : Cell) (a : ℕ) (hk : n ≤ levelOf k) :
    Above n (O + tallyAt (kcell (c, k)) () a) := fun g u hg => by
  rw [Pi.add_apply, Finsupp.add_apply, tallyAt_apply] at hg
  by_cases e : g = kcell (c, k) ∧ u = ()
  · exact ⟨c, k, e.1, hk⟩
  · rw [if_neg e, Nat.add_zero] at hg; exact h g u hg

/-- What is owed before the last transfer is at level 3 or above. -/
theorem above₅ (c : Dev nD) : Above 3 (O₅ c) := above_add (above_zero 3) _ _ _ (by decide)
/-- So does what is owed before the last two. -/
theorem above₄ (c : Dev nD) : Above 3 (O₄ c) := above_add (above₅ c) _ _ _ (by decide)
/-- What is at a level or above is so for a lower level. -/
theorem above_mono {n n' : ℕ} (h : n ≤ n') {O : CellTallies nD τ sig Unit} (hO : Above n' O) : Above n O :=
  fun g u hg => by obtain ⟨c, k, e, hk⟩ := hO g u hg; exact ⟨c, k, e, h.trans hk⟩
/-- What is owed before the transfers is at level 2 or above. -/
theorem above₂ (c : Dev nD) : Above 2 (O₂ c) :=
  above_add (above_add (above_mono (by decide) (above₄ c)) _ _ _ (by decide)) _ _ _ (by decide)
/-- What is owed at launch is at level 1 or above. -/
theorem above₀ (c : Dev nD) : Above 1 (O₀ c) :=
  above_add (above_add (above_mono (by decide) (above₂ c)) _ _ _ (by decide)) _ _ _ (by decide)

/-- A device may wait on a cell below everything it owes. -/
theorem mayWait_of (c : Dev nD) (sm : SemLoc sig) {n : ℕ} {O : CellTallies nD τ sig Unit} (hO : Above n O)
    (hn : lv ((c : Thread nD τ), sm) () < n) : (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp])
    (fun g u hg => by obtain ⟨d, k, rfl, hk⟩ := hO g u hg; rw [lv_kcell]; exact hn.trans_le hk)

/-- A device that owes nothing may wait on any cell. -/
theorem mayWait_zero (c : Dev nD) (sm : SemLoc sig) : (levAts L lv : sProp 𝕄) ⊢ MayWait (c : Thread nD τ) sm () 0 := by
  rw [MayWait_zero]; iintro -; iempintro

/-! ## The launch's proof data -/

/-- The pipeline has one step. -/
theorem cfg0_N : cfg0.N = 1 := by decide
/-- That step. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- The invariants of all cells, at the names `K`, and that each has reached round 0. -/
def records (K : Dev nD × Cell → ℕ) : sProp 𝕄 :=
  iprop((bigSep Finset.univ fun ck : Dev nD × Cell => cellInv ER (ringRd m ρ) (K ck) (kcell ck))
    ∗ bigSep Finset.univ fun ck : Dev nD × Cell => reached ER (kcell ck) 0)

/-- The records may be kept. -/
instance records_persistent (K : Dev nD × Cell → ℕ) : BI.Persistent (records m ρ K) := by unfold records; infer_instance

/-- They hold each cell's invariant -/
theorem inv_at (K : Dev nD × Cell → ℕ) (ck : Dev nD × Cell) : records m ρ K ⊢ cellInv ER (ringRd m ρ) (K ck) (kcell ck) := by
  unfold records
  iintro ⟨H, -⟩
  iapply (show (bigSep Finset.univ fun ck : Dev nD × Cell => cellInv ER (ringRd m ρ) (K ck) (kcell ck)) ⊢ _ from bigSep_elim (Finset.mem_univ ck))
  iexact H
/-- and that its round is reached. -/
theorem reached_at (K : Dev nD × Cell → ℕ) (ck : Dev nD × Cell) : records m ρ K ⊢ reached ER (kcell ck) 0 := by
  unfold records
  iintro ⟨-, H⟩
  iapply (show (bigSep Finset.univ fun ck : Dev nD × Cell => (reached ER (kcell ck) 0 : sProp 𝕄)) ⊢ _ from bigSep_elim (Finset.mem_univ ck))
  iexact H

/-- The tokens of the duties device `c` pays: its two signals, its transfers' two ends. -/
def payToks (c : Dev nD) : sProp 𝕄 :=
  iprop(dutyTok ER (barCell (left c)) 0 false ∗ dutyTok ER (barCell (right c)) 0 true
    ∗ (bigSep Finset.univ fun s : Fin 4 => dutyTok ER (sendCell c s) 0 false)
    ∗ bigSep Finset.univ fun s : Fin 4 => dutyTok ER (recvCell (peer s c) s) 0 false)
/-- Its positions in its own cells. -/
def places (c : Dev nD) : sProp 𝕄 :=
  iprop(atPos ER (barCell c) 0 ∅ 0 ∗ (bigSep Finset.univ fun s : Fin 4 => atPos ER (sendCell c s) 0 ∅ 0)
    ∗ bigSep Finset.univ fun s : Fin 4 => atPos ER (recvCell c s) 0 ∅ 0)

/-- What device `c` starts with of the schedule. -/
def ghost (K : Dev nD × Cell → ℕ) (c : Dev nD) : sProp 𝕄 := iprop(records m ρ K ∗ places c ∗ payToks c)

/-- The launch credit of its barrier and receive cells. -/
def credits (c : Dev nD) : sProp 𝕄 :=
  iprop(cred (tallyAt (barCell c) () 2) ∗ bigSep Finset.univ fun s : Fin 4 => cred (tallyAt (recvCell c s) () (amt s)))

/-- What device `c` starts its body with. -/
def start (c : Dev nD) : sProp 𝕄 := iprop((∃ K, ghost m ρ K c) ∗ credits c ∗ levAts L lv)

/-- The whole scratch buffer at some contents. -/
def scratch (c : Dev nD) : sProp 𝕄 :=
  iprop(∃ f : Buf (Elt F) ((c : Thread nD τ).loc cc0_scratch0), ((c : Thread nD τ).loc cc0_scratch0) ↦{fullShare} f)

/-- All nine counters at zero. -/
def zeros (c : Dev nD) : sProp 𝕄 :=
  iprop(semVal (barCell c) 0 ∗ (bigSep Finset.univ fun s : Fin 4 => semVal (sendCell c s) 0)
    ∗ bigSep Finset.univ fun s : Fin 4 => semVal (recvCell c s) 0)

/-- What device `c` holds before its body. -/
def Φ₀ (c : Dev nD) : sProp 𝕄 := iprop(start m ρ c ∗ scratch c)
/-- What device `c` holds after its body. -/
def Φ₁ (c : Dev nD) : sProp 𝕄 := iprop(scratch c ∗ zeros c)

/-- The one region of the run. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => wkAt m ρ c
    | ⟨3, _⟩ => wvAt m ρ c
    | ⟨4, _⟩ => woAt m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- No loop of the kernel needs a variant. -/
abbrev 𝒱₀ : Variants := Variants.none

end Cert.KernelIdeal.Attn
end
-- ==== Proof.Body.lean ====
module

public import proofs.«01_k».proof.Proof.Ring

/-! One device's body, run effect by effect against the protocol. -/

@[expose] public section
noncomputable section
namespace Cert.KernelIdeal.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parts of the scratch buffer -/

/-- A part depends only on the contents within it. -/
theorem part_congr (c : Dev nD) {S : Finset S4x512x512.Idx} {q : PosShare TreeShare} {f g : (cc0_scratch0 : Ref sig .tc).ty.Contents (Elt F)}
    (h : ∀ i ∈ S, f i = g i) : part c S q f = part (F := F) c S q g := pointsTo_congr h

/-- Disjoint parts of the scratch buffer join. -/
theorem part_union (c : Dev nD) {S T : Finset S4x512x512.Idx} (h : Disjoint S T) (q : PosShare TreeShare)
    (f : (cc0_scratch0 : Ref sig .tc).ty.Contents (Elt F)) : part c (S ∪ T) q f = iprop(part (F := F) c S q f ∗ part c T q f) :=
  BI.Entails.antisymm (pointsTo_union h).1 (pointsTo_union h).2

/-- Shares of a part join. -/
theorem part_shares (c : Dev nD) (S : Finset S4x512x512.Idx) (f : (cc0_scratch0 : Ref sig .tc).ty.Contents (Elt F)) :
    part c S fullShare f = iprop(part (F := F) c S fullShare.left f ∗ part c S fullShare.right f) :=
  BI.Entails.antisymm (pointsTo_share (PosShare.mem_left_op_right fullShare)).1 (pointsTo_share (PosShare.mem_left_op_right fullShare)).2

/-- The two halves of a slot make the slot. -/
theorem part_halves (c : Dev nD) (k : Fin 4) (q : PosShare TreeShare) (f : (cc0_scratch0 : Ref sig .tc).ty.Contents (Elt F)) :
    part c (slotSet k) q f = iprop(part (F := F) c (halfSet k 0) q f ∗ part c (halfSet k 1) q f) := by
  rw [slotSet_halves, part_union c (halfSet_disjoint k)]

/-- The whole buffer is its own slot and the four parts the transfers write. -/
theorem whole_parts (c : Dev nD) (f : (cc0_scratch0 : Ref sig .tc).ty.Contents (Elt F)) :
    (((c : Thread nD τ).loc cc0_scratch0) ↦{fullShare} f : sProp 𝕄)
      = iprop(part c (slotSet 0) fullShare f ∗ part c (slotSet 1) fullShare f ∗ part c (slotSet 2) fullShare f
          ∗ part c (halfSet 3 0) fullShare f ∗ part c (halfSet 3 1) fullShare f) := by
  have h (a b : Fin 4) (hab : a ≠ b := by decide) := slotSet_disjoint hab
  show part c Finset.univ fullShare f = _
  rw [univ_slots,
    part_union c (Finset.disjoint_union_right.mpr ⟨h 0 1, Finset.disjoint_union_right.mpr ⟨h 0 2, h 0 3⟩⟩),
    part_union c (Finset.disjoint_union_right.mpr ⟨h 1 2, h 1 3⟩), part_union c (h 2 3), part_halves c 3]

/-! ## Transfers -/

section Send
variable (K : Dev nD × Cell → ℕ) (c n : Dev nD) (s : Fin 4) (hn : n = peer s c) (O : CellTallies nD τ sig Unit) (W : Waits sig Unit)
  (fd : (cc0_scratch0 : Ref sig .tc).ty.Contents (Elt F))

/-- What transfer `s` starts from. -/
def sendPre : sProp 𝕄 :=
  iprop(records m ρ K ∗ sendPay m ρ c s ∗ part (peer s c) (into s) fullShare fd ∗ owes (c : Thread nD τ) (O + due s c) W
    ∗ dutyTok ER (sendCell c s) 0 false ∗ dutyTok ER (recvCell (peer s c) s) 0 false)

variable (k l : Fin 4)

include hn in
/-- Sending a whole slot. -/
theorem wp_send_slot (ho : out s = slotSet k) (hi : into s = slotSet l) (ha : (slotM l).view.dmaCredit = amt s)
    (hb : source c k = source (peer s c) l)
    {hsc : (slotM l : Memref sig (Dev.tc n : Thread nD τ).2.kind .vmem S512x512 .bf16).view.ref.isScScratch = false}
    {hsrc : (slotM k).view.WordExact} {hdst : (slotM l).view.WordExact}
    {hsem : DmaTarget.Typed .vmem (.dma (recvS s)) (.remote (Dev.tc n : Thread nD τ) (slotM l) (.dma (sendS s)) hsc)}
    {α : Type} {Q : α → sProp 𝕄} {p : PUnit → Prog (TpuEff nD τ sig (Elt F) Λ₀ .tc) α} :
    sendPre m ρ K c s O W fd
      ⊢ iprop(((cred (tallyAt (sendCell c s) () (amt s)) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (slotM k) (.remote (Dev.tc n : Thread nD τ) (slotM l) (.dma (sendS s)) hsc) (.dma (recvS s)) hsrc hdst hsem) p) Q) := by
  subst hn
  unfold sendPre
  have hs : sendPay m ρ c s = ((slotM k).view.loc (c : Thread nD τ) ↦[(slotM k).view.set]{lent s} (full m ρ c) : sProp 𝕄) := by
    unfold sendPay part; rw [ho, slotM_set]
  have hd (f : (cc0_scratch0 : Ref sig .tc).ty.Contents (Elt F)) : part (peer s c) (into s) fullShare f
      = ((slotM l).view.loc (peer s c : Thread nD τ) ↦[(slotM l).view.set]{fullShare} f : sProp 𝕄) := by
    unfold part; rw [hi, slotM_set]
  rw [hs, hd]
  refine .trans ?_ (Rounds.wp_send_pointsTo 𝒱₀ ER (ringRd m ρ) (c : Thread nD τ) none (κ₁ := K (c, some (false, s)))
    (κ₂ := K (peer s c, some (true, s))) (r₁ := 0) (r₂ := 0) (d₁ := false) (d₂ := false) (fd := fd)
    (by rw [duties_eq m ρ c (some (false, s))]; exact Finset.mem_singleton_self _)
    (by rw [duties_eq m ρ (peer s c) (some (true, s))]; exact Finset.mem_singleton_self _)
    () () (amt s) (by exact ha) (amount_eq m ρ c (some (false, s)) false) (amount_eq m ρ (peer s c) (some (true, s)) false) O rfl (W := W)
    (by rw [payload_eq m ρ c (some (false, s))]; exact Entails.of_eq hs.symm)
    (by
      rw [payload_eq m ρ (peer s c) (some (true, s))]
      show _ ⊢ recvPay m ρ (peer s c) s
      unfold recvPay
      rw [hd]
      exact Entails.of_eq (pointsTo_congr (landed_slot (fun i => blkAt m ρ (source c i)) (fun i => blkAt m ρ (source (peer s c) i)) k l
        (congrArg (blkAt m ρ) hb) fd))))
  iintro ⟨#HR, Hs, Hd, HO, Ht, Ht'⟩
  isplitr; · iapply (inv_at m ρ K (c, some (false, s))); iexact HR
  isplitr; · iapply (inv_at m ρ K (peer s c, some (true, s))); iexact HR
  isplitl [Hs]; · iexact Hs
  isplitl [Hd]; · iexact Hd
  isplitl [HO]; · iexact HO
  isplitl [Ht]; · iexact Ht
  isplitr; · iapply (reached_at m ρ K (c, some (false, s))); iexact HR
  isplitl [Ht']; · iexact Ht'
  iapply (reached_at m ρ K (peer s c, some (true, s))); iexact HR

variable (j : Fin 2)

include hn in
/-- Sending half a slot. -/
theorem wp_send_half (ho : out s = halfSet k j) (hi : into s = halfSet l j) (ha : (halfM l j).view.dmaCredit = amt s)
    (hb : source c k = source (peer s c) l)
    {hsc : (halfM l j : Memref sig (Dev.tc n : Thread nD τ).2.kind .vmem S256x512 .bf16).view.ref.isScScratch = false}
    {hsrc : (halfM k j).view.WordExact} {hdst : (halfM l j).view.WordExact}
    {hsem : DmaTarget.Typed .vmem (.dma (recvS s)) (.remote (Dev.tc n : Thread nD τ) (halfM l j) (.dma (sendS s)) hsc)}
    {α : Type} {Q : α → sProp 𝕄} {p : PUnit → Prog (TpuEff nD τ sig (Elt F) Λ₀ .tc) α} :
    sendPre m ρ K c s O W fd
      ⊢ iprop(((cred (tallyAt (sendCell c s) () (amt s)) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (halfM k j) (.remote (Dev.tc n : Thread nD τ) (halfM l j) (.dma (sendS s)) hsc) (.dma (recvS s)) hsrc hdst hsem) p) Q) := by
  subst hn
  unfold sendPre
  have hs : sendPay m ρ c s = ((halfM k j).view.loc (c : Thread nD τ) ↦[(halfM k j).view.set]{lent s} (full m ρ c) : sProp 𝕄) := by
    unfold sendPay part; rw [ho, halfM_set]
  have hd (f : (cc0_scratch0 : Ref sig .tc).ty.Contents (Elt F)) : part (peer s c) (into s) fullShare f
      = ((halfM l j).view.loc (peer s c : Thread nD τ) ↦[(halfM l j).view.set]{fullShare} f : sProp 𝕄) := by
    unfold part; rw [hi, halfM_set]
  rw [hs, hd]
  refine .trans ?_ (Rounds.wp_send_pointsTo 𝒱₀ ER (ringRd m ρ) (c : Thread nD τ) none (κ₁ := K (c, some (false, s)))
    (κ₂ := K (peer s c, some (true, s))) (r₁ := 0) (r₂ := 0) (d₁ := false) (d₂ := false) (fd := fd)
    (by rw [duties_eq m ρ c (some (false, s))]; exact Finset.mem_singleton_self _)
    (by rw [duties_eq m ρ (peer s c) (some (true, s))]; exact Finset.mem_singleton_self _)
    () () (amt s) (by exact ha) (amount_eq m ρ c (some (false, s)) false) (amount_eq m ρ (peer s c) (some (true, s)) false) O rfl (W := W)
    (by rw [payload_eq m ρ c (some (false, s))]; exact Entails.of_eq hs.symm)
    (by
      rw [payload_eq m ρ (peer s c) (some (true, s))]
      show _ ⊢ recvPay m ρ (peer s c) s
      unfold recvPay
      rw [hd]
      exact Entails.of_eq (pointsTo_congr (landed_half (fun i => blkAt m ρ (source c i)) (fun i => blkAt m ρ (source (peer s c) i)) k l j
        (congrArg (blkAt m ρ) hb) fd))))
  iintro ⟨#HR, Hs, Hd, HO, Ht, Ht'⟩
  isplitr; · iapply (inv_at m ρ K (c, some (false, s))); iexact HR
  isplitr; · iapply (inv_at m ρ K (peer s c, some (true, s))); iexact HR
  isplitl [Hs]; · iexact Hs
  isplitl [Hd]; · iexact Hd
  isplitl [HO]; · iexact HO
  isplitl [Ht]; · iexact Ht
  isplitr; · iapply (reached_at m ρ K (c, some (false, s))); iexact HR
  isplitl [Ht']; · iexact Ht'
  iapply (reached_at m ρ K (peer s c, some (true, s))); iexact HR

end Send

/-! ## Waits -/

/-- A wait on one of a device's own eight semaphores spends the credit, closes the cell and yields what was deposited there. -/
theorem wp_wait_own (K : Dev nD × Cell → ℕ) (c : Dev nD) (o : Own) {q : DmaSem sig} (hq : csem (some o) = .dma q) {sh : Shape}
    {src dst : Memref sig .tc .vmem sh .bf16} (ha : dst.view.dmaCredit = amt o.2) {O : CellTallies nD τ sig Unit}
    (hO : (levAts L lv : sProp 𝕄) ⊢ MayWait (c : Thread nD τ) (csem (some o)) () O) {pay : sProp 𝕄}
    (hp : bigSep ((ringRd (F := F) m ρ).duties (kcell (c, some o)) 0 \ ∅) (fun d => (ringRd (F := F) m ρ).payload (kcell (c, some o)) 0 d) = pay)
    {hs : src.view.WordExact} {hd : dst.view.WordExact}
    {α : Type} {Q : α → sProp 𝕄} {p : PUnit → Prog (TpuEff nD τ sig (Elt F) Λ₀ .tc) α} :
    iprop(records m ρ K ∗ levAts L lv ∗ cred (tallyAt (kcell (c, some o)) () (amt o.2)) ∗ (∃ W, owes (c : Thread nD τ) O W)
        ∗ atPos ER (kcell (c, some o)) 0 ∅ 0)
      ⊢ iprop((((∃ W, owes (c : Thread nD τ) O W) ∗ semVal (kcell (c, some o)) 0 ∗ pay)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hs hd) p) Q) := by
  subst hp
  have ek (d : Dev nD) : kcell (d, some o) = ((d : Thread nD τ), SemLoc.dma q) := by rw [← hq]
  rw [hq] at hO
  have hx := (Nat.zero_add _).trans (ha.trans (expect_own (F := F) m ρ c o).symm)
  have hc := inv_at m ρ K (c, some o)
  rw [ek, ← ha]
  rw [ek] at hx hc
  iintro ⟨#HR, #Hlev, Hc, ⟨%W, HO⟩, Hat⟩ Hk
  iapply (Rounds.wp_wait_rest_token 𝒱₀ ER (ringRd m ρ) (c : Thread nD τ) none (κ := K (c, some o))
      (wpE_waitDma2_eq 𝒱₀ (c : Thread nD τ) none Set.univ) (Set.mem_univ _) () (O := O) (W := W) (R := 0) (m := 0) (T := ∅) hx) $$ [Hc HO Hat]
  · isplitr; · iapply hc; iexact HR
    isplitl [Hc]; · iexact Hc
    isplitl [HO]; · iexact HO
    isplitr; · iapply hO; iexact Hlev
    iexact Hat
  iintro ⟨HO, Hat, -, Hpay⟩
  imod (Rounds.cell_close ER (ringRd m ρ) (Set.mem_univ (K (c, some o))) (fun h => h) (R := 0 + 1) (duties_later m ρ _)) $$ [Hat] with Hz
  · isplitr; · iapply hc; iexact HR
    iexact Hat
  iapply Hk
  isplitl [HO]; · iexists _; iexact HO
  isplitl [Hz]; · iexact Hz
  iexact Hpay

end Cert.KernelIdeal.Attn
end
-- ==== Proof.Exec.lean ====
module

public import proofs.«01_k».proof.Proof.Body

/-! The body obligation: the sequence of effects, one rule per effect in program order. -/

@[expose] public section
noncomputable section
namespace Cert.KernelIdeal.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A separating product over four is its four factors. -/
theorem bigSep_fin4 (P : Fin 4 → sProp 𝕄) : bigSep Finset.univ P = iprop(P 0 ∗ P 1 ∗ P 2 ∗ P 3) :=
  bigSep_univ_eq_bigSepL [0, 1, 2, 3] (by decide) (by decide) P

/-! ## The signals' payloads -/

/-- What the signal to the left neighbour hands over. -/
theorem barPay_to_left (c : Dev nD) : barPay (F := F) (left c) false
    = iprop((∃ f, part c (slotSet 1) fullShare f) ∗ (∃ f, part c (halfSet 3 0) fullShare f)) := by
  have h : signaller false (left c) = c := right_left c
  unfold barPay; rw [h]; rfl
/-- What the signal to the right neighbour hands over. -/
theorem barPay_to_right (c : Dev nD) : barPay (F := F) (right c) true
    = iprop((∃ f, part c (slotSet 2) fullShare f) ∗ (∃ f, part c (halfSet 3 1) fullShare f)) := by
  have h : signaller true (right c) = c := left_right c
  unfold barPay; rw [h]; rfl
/-- What the right neighbour's signal hands a device: the targets of its copies 0 and 2. -/
theorem barPay_false (c : Dev nD) : barPay (F := F) c false
    = iprop((∃ f, part (peer 0 c) (into 0) fullShare f) ∗ (∃ f, part (peer 2 c) (into 2) fullShare f)) := rfl
/-- What the left neighbour's signal hands a device: the targets of its copies 1 and 3. -/
theorem barPay_true (c : Dev nD) : barPay (F := F) c true
    = iprop((∃ f, part (peer 1 c) (into 1) fullShare f) ∗ (∃ f, part (peer 3 c) (into 3) fullShare f)) := rfl

/-! ## Where the blocks come from -/

/-- The block that the first copy carries is the one that its target slot is for. -/
theorem source_0 (c : Dev nD) : source c 0 = source (peer 0 c) 1 := by revert c; decide
/-- Likewise the second, -/
theorem source_1 (c : Dev nD) : source c 0 = source (peer 1 c) 2 := by revert c; decide
/-- the third -/
theorem source_2 (c : Dev nD) : source c 1 = source (peer 2 c) 3 := by revert c; decide
/-- and the fourth. -/
theorem source_3 (c : Dev nD) : source c 2 = source (peer 3 c) 3 := by revert c; decide

/-! ## Contents read and written -/

/-- A slot of the full scratch buffer reads as the block of its source. -/
theorem read_full (c : Dev nD) (k : Fin 4) :
    (sM.view.readAt (Elt F) (slotR k).toLoadRect (full m ρ c) : Vec F S1x512x512 .bf16) = asSlot (blkAt m ρ (source c k)) :=
  read_slot _ k
/-- Loading the whole staged input gives its contents. -/
theorem read_x (f : (cc0_stg0_0 : Ref sig .tc).ty.Contents (Elt F)) :
    (xM.view.readAt (Elt F) xR.toLoadRect f : Vec F S2x256x768 .bf16) = f := by
  have hz : (![0, 0, 0] : Fin 3 → Nat) = fun _ => 0 := by decide
  exact Memref.readAt_unit_zero (Elt F) cc0_stg0_0 hz _ f
/-- The two zero offsets, as a constant function. -/
theorem zero2 : (![0, 0] : Fin 2 → Nat) = fun _ => 0 := by decide
/-- Loading the whole staged query weights gives their contents, -/
theorem read_wq (f : (cc0_stg1_0 : Ref sig .tc).ty.Contents (Elt F)) : (wqM.view.readAt (Elt F) wR.toLoadRect f : Vec F S768x256 .bf16) = f :=
  Memref.readAt_unit_zero (Elt F) cc0_stg1_0 zero2 _ f
/-- and so for the key weights, -/
theorem read_wk (f : (cc0_stg2_0 : Ref sig .tc).ty.Contents (Elt F)) : (wkM.view.readAt (Elt F) wR.toLoadRect f : Vec F S768x256 .bf16) = f :=
  Memref.readAt_unit_zero (Elt F) cc0_stg2_0 zero2 _ f
/-- the value weights -/
theorem read_wv (f : (cc0_stg3_0 : Ref sig .tc).ty.Contents (Elt F)) : (wvM.view.readAt (Elt F) wR.toLoadRect f : Vec F S768x256 .bf16) = f :=
  Memref.readAt_unit_zero (Elt F) cc0_stg3_0 zero2 _ f
/-- and the output weights. -/
theorem read_wo (f : (cc0_stg4_0 : Ref sig .tc).ty.Contents (Elt F)) : (woM.view.readAt (Elt F) woR.toLoadRect f : Vec F S256x768 .bf16) = f :=
  Memref.readAt_unit_zero (Elt F) cc0_stg4_0 zero2 _ f
/-- Storing the whole result replaces the result. -/
theorem write_out (f : (cc0_stg5_0 : Ref sig .tc).ty.Contents (Elt F)) (w : Vec F S2x256x768 .f32) :
    (oM.access xR : View sig .tc _ _ _).write (Elt F) f w Finset.univ = w := by
  have hz : (![0, 0, 0] : Fin 3 → Nat) = fun _ => 0 := by decide
  exact Memref.write_access_unit_zero_univ (Elt F) cc0_stg5_0 hz _ f w

/-- Loading a slot reads only entries of the slot. -/
theorem slot_load_fit (k : Fin 4) : (sM.access (slotR k) : View sig .tc _ _ _).set ⊆ slotSet k := by
  show _ ⊆ (slotR k).set
  exact (View.set_slice_whole cc0_scratch0 (slotR k)).subset

/-- Loading slot `k` from a share of it. -/
theorem wp_load_part (c : Dev nD) (k : Fin 4) (q : PosShare TreeShare) {f : (cc0_scratch0 : Ref sig .tc).ty.Contents (Elt F)} {v : Vec F S1x512x512 .bf16}
    (e : (sM.access (slotR k) : View sig .tc _ _ _).read (Elt F) f = v) {hl : View.LoadsAt (View.whole (cc0_scratch0 : Ref sig .tc)) (slotR k).toLoadRect}
    {α : Type} {Q : α → sProp 𝕄} {p : Vec F S1x512x512 .bf16 → Prog (TpuEff nD τ sig (Elt F) Λ₀ .tc) α} :
    part c (slotSet k) q f
      ⊢ iprop((part c (slotSet k) q f -∗ wp frame (wpE (defs₀ (F := F)) 𝒱₀ (c : Thread nD τ) none) Set.univ (p v) Q)
          -∗ wp frame (wpE (defs₀ (F := F)) 𝒱₀ (c : Thread nD τ) none) Set.univ (.op (.load sM (slotR k).toLoadRect hl) p) Q) := by
  have h := wp_load_rect (Γ := []) (defs := defs₀ (F := F)) 𝒱₀ (c : Thread nD τ) none Set.univ (m := sM) (r := slotR k) (hl := hl) (k := p) (Q := Q)
    (S := slotSet k) (q := q) (f := f) (slot_load_fit k)
  rw [e] at h
  unfold part
  exact h

/-! ## The obligation -/

/-- Every window but the result's is fetched. -/
theorem fetch_in (w : Fin 6) (h : w ≠ 5) (t : Fin cfg0.N) : (cfg0.win w).fetch t = true := by
  rw [fin_N t]; revert w; decide

/-- A slot that has landed: half of each half, and half of the whole. -/
theorem slot_pieces (c : Dev nD) (k : Fin 4) (f : (cc0_scratch0 : Ref sig .tc).ty.Contents (Elt F)) : part c (slotSet k) fullShare f
    = iprop((part (F := F) c (halfSet k 0) fullShare.left f ∗ part c (halfSet k 1) fullShare.left f) ∗ part c (slotSet k) fullShare.right f) := by
  rw [part_shares, part_halves]

/-- The own block stored. -/
theorem stored_full (c : Dev nD) (f : (cc0_scratch0 : Ref sig .tc).ty.Contents (Elt F)) :
    ((sM.access (slotR 0) : View sig .tc _ _ _).loc (c : Thread nD τ) ↦[slotSet 0]{fullShare}
        ((sM.access (slotR 0) : View sig .tc _ _ _).write (Elt F) f (asSlot (kvBlock c (xAt m ρ c) (wkAt m ρ c) (wvAt m ρ c))) Finset.univ) : sProp 𝕄)
      = iprop(part c (slotSet 0) fullShare.left (full m ρ c) ∗ part c (slotSet 0) fullShare.right (full m ρ c)) := by
  rw [← part_shares]
  exact pointsTo_congr (stored_slot (fun k => blkAt m ρ (source c k)) 0 f)

/-- Storing the own block in slot 0, from which two shares of the slot come. -/
theorem wp_store_own (c : Dev nD) (f : (cc0_scratch0 : Ref sig .tc).ty.Contents (Elt F))
    {hx : (sM.access (slotR 0) : View sig .tc _ _ _).Stores Finset.univ} {hm : (Finset.univ : Finset (slotR 0).shape.Idx) = Finset.univ ∨ ∀ a, (slotR 0).stride a = 1}
    {α : Type} {Q : α → sProp 𝕄} {p : PUnit → Prog (TpuEff nD τ sig (Elt F) Λ₀ .tc) α} :
    part c (slotSet 0) fullShare f
      ⊢ iprop(((part c (slotSet 0) fullShare.left (full m ρ c) ∗ part c (slotSet 0) fullShare.right (full m ρ c))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.store sM (slotR 0) (asSlot (kvBlock c (xAt m ρ c) (wkAt m ρ c) (wvAt m ρ c))) Finset.univ hx hm) p) Q) := by
  have h := wp_store (Γ := []) (defs := defs₀ (F := F)) 𝒱₀ (c : Thread nD τ) none Set.univ (m := sM) (r := slotR 0) (Mk := Finset.univ) (hx := hx) (hm := hm)
    (w := asSlot (kvBlock c (xAt m ρ c) (wkAt m ρ c) (wvAt m ρ c))) (k := p) (Q := Q) (S := slotSet 0) (f := f) (slot_load_fit 0)
  rw [stored_full] at h
  exact h

/-- Everything back in place: the whole buffer. -/
theorem rejoin (c : Dev nD) :
    iprop((part c (slotSet 0) fullShare.left (full m ρ c) ∗ part c (slotSet 0) fullShare.right (full m ρ c))
        ∗ ((part c (halfSet 1 0) fullShare.left (full m ρ c) ∗ part c (halfSet 1 1) fullShare.left (full m ρ c)) ∗ part c (slotSet 1) fullShare.right (full m ρ c))
        ∗ ((part c (halfSet 2 0) fullShare.left (full m ρ c) ∗ part c (halfSet 2 1) fullShare.left (full m ρ c)) ∗ part c (slotSet 2) fullShare.right (full m ρ c))
        ∗ part c (slotSet 3) fullShare (full m ρ c))
      = (((c : Thread nD τ).loc cc0_scratch0) ↦{fullShare} (full m ρ c) : sProp 𝕄) := by
  rw [whole_parts, ← slot_pieces, ← slot_pieces, ← part_shares, part_halves c 3]

/-- The staging buffer `b` of device `c` holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

section
variable (Ks : Dev nD × Cell → ℕ)

/-- What the body of device `c` starts with. -/
def bodyPre (c : Dev nD) : sProp 𝕄 :=
  iprop((ghost m ρ Ks c ∗ credits c ∗ levAts L lv ∗ scratch c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What it ends with. -/
def bodyPost (c : Dev nD) : sProp 𝕄 :=
  iprop(Φ₁ c ∗ (dats m ρ 0 c).owesAt () t₀.succ ∗ stg c cc0_stg0_0 (xAt m ρ c) ∗ stg c cc0_stg1_0 (wqAt m ρ c) ∗ stg c cc0_stg2_0 (wkAt m ρ c)
    ∗ stg c cc0_stg3_0 (wvAt m ρ c) ∗ stg c cc0_stg4_0 (woAt m ρ c) ∗ stg c cc0_stg5_0 (outAt m ρ c))

set_option maxHeartbeats 4000000 in
/-- The body of device `c` runs from its start to its end. -/
theorem sound_body (c : Dev nD) (Kt : PUnit → sProp 𝕄) :
    iprop(bodyPre m ρ Ks c ∗ (bodyPost m ρ c -∗ Kt ⟨⟩)) ⊢ wp frame (wpE (defs₀ (F := F)) 𝒱₀ c none) Set.univ flat Kt := by
  unfold flat
  simp only [semSignalWord, semWaitWord, Prog.lift, Prog.bind_op, Prog.bind_ret, Prog.pure_eq_ret, wp_deviceId]
  unfold bodyPre ghost places payToks credits scratch
  simp only [bigSep_fin4]
  iintro ⟨⟨⟨⟨#HR, ⟨HaB, ⟨HaS0, HaS1, HaS2, HaS3⟩, HaV0, HaV1, HaV2, HaV3⟩, HtL, HtR, ⟨HtS0, HtS1, HtS2, HtS3⟩, HtV0, HtV1, HtV2, HtV3⟩,
      ⟨HcB, HcV0, HcV1, HcV2, HcV3⟩, #Hlev, ⟨%f0, Hscr⟩⟩,
    Ho, ⟨%d0, %g0, %hg0, Hx⟩, ⟨%d1, %g1, %hg1, Hwq⟩, ⟨%d2, %g2, %hg2, Hwk⟩, ⟨%d3, %g3, %hg3, Hwv⟩, ⟨%d4, %g4, %hg4, Hwo⟩, ⟨%d5, %g5, %hg5, Hout⟩⟩, Hk⟩
  have e0 : g0 = xAt m ρ c := by rw [hg0]; unfold Dat.before; rw [if_pos (fetch_in (0 : Fin 6) (by decide) t₀)]; rfl
  have e1 : g1 = wqAt m ρ c := by rw [hg1]; unfold Dat.before; rw [if_pos (fetch_in (1 : Fin 6) (by decide) t₀)]; rfl
  have e2 : g2 = wkAt m ρ c := by rw [hg2]; unfold Dat.before; rw [if_pos (fetch_in (2 : Fin 6) (by decide) t₀)]; rfl
  have e3 : g3 = wvAt m ρ c := by rw [hg3]; unfold Dat.before; rw [if_pos (fetch_in (3 : Fin 6) (by decide) t₀)]; rfl
  have e4 : g4 = woAt m ρ c := by rw [hg4]; unfold Dat.before; rw [if_pos (fetch_in (4 : Fin 6) (by decide) t₀)]; rfl
  subst e0 e1 e2 e3 e4
  ihave Hp := (Entails.of_eq (whole_parts c f0)) $$ Hscr
  icases Hp with ⟨Hs0, Hs1, Hs2, Hh0, Hh1⟩
  unfold Dat.owesAt Pipeline.owesWithin
  icases Ho with ⟨%W, %hW, HO⟩
  rw [show (dats m ρ 0 c).owed t₀.castSucc = O₀ c from rfl]
  simp only [dev1_eq c, dev2_eq c]
  -- the two signals
  iapply (Rounds.wp_signal 𝒱₀ ER (ringRd m ρ) (c : Thread nD τ) none (dst := (left c : Thread nD τ)) (κ := Ks (left c, none))
      (d := false) (by rw [duties_eq m ρ (left c) none]; exact Finset.mem_univ _) ((amount_eq m ρ (left c) none false).trans (by decide)) () (O₁ c) rfl)
    $$ [HO HtL Hs1 Hh0]
  · isplitr; · iapply (inv_at m ρ Ks (left c, none)); iexact HR
    isplitl [HO]; · iexact HO
    isplitl [HtL]; · iexact HtL
    isplitl [Hs1 Hh0]
    · rw [payload_eq m ρ (left c) none]
      rw [show payOf m ρ (left c) none false = _ from barPay_to_left c]
      isplitl [Hs1] <;> (iexists f0; iassumption)
    iapply (reached_at m ρ Ks (left c, none)); iexact HR
  iintro HO
  unfold O₁
  iapply (Rounds.wp_signal 𝒱₀ ER (ringRd m ρ) (c : Thread nD τ) none (dst := (right c : Thread nD τ)) (κ := Ks (right c, none))
      (d := true) (by rw [duties_eq m ρ (right c) none]; exact Finset.mem_univ _) ((amount_eq m ρ (right c) none true).trans (by decide)) () (O₂ c) rfl)
    $$ [HO HtR Hs2 Hh1]
  · isplitr; · iapply (inv_at m ρ Ks (right c, none)); iexact HR
    isplitl [HO]; · iexact HO
    isplitl [HtR]; · iexact HtR
    isplitl [Hs2 Hh1]
    · rw [payload_eq m ρ (right c) none]
      rw [show payOf m ρ (right c) none true = _ from barPay_to_right c]
      isplitl [Hs2] <;> (iexists f0; iassumption)
    iapply (reached_at m ρ Ks (right c, none)); iexact HR
  iintro HO
  -- the barrier
  iapply (Rounds.wp_wait_rest_token 𝒱₀ ER (ringRd m ρ) (c : Thread nD τ) none (κ := Ks (c, none))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_at m ρ Ks (c, none)); iexact HR
    isplitl [HcB]; · iexact HcB
    isplitl [HO]; · iexact HO
    isplitr
    · iapply (mayWait_of c (csem none) (above₂ c) (by rw [lv_kcell c none]; decide)); iexact Hlev
    iexact HaB
  iintro ⟨HO, HaB, -, Hpay⟩
  imod (Rounds.cell_close ER (ringRd m ρ) (Set.mem_univ (Ks (c, none))) (fun h => h) (R := 0 + 1) (duties_later m ρ (barCell c))) $$ [HaB] with HzB
  · isplitr; · iapply (inv_at m ρ Ks (c, none)); iexact HR
    iexact HaB
  ihave Hp := (Entails.of_eq (rest_bar m ρ c)) $$ Hpay
  rw [barPay_false, barPay_true]
  icases Hp with ⟨⟨⟨%b0, Hd0⟩, %b2, Hd2⟩, ⟨%b1, Hd1⟩, %b3, Hd3⟩
  -- the loads and the store of the own block
  iapply (wp_load 𝒱₀ (c : Thread nD τ) none Set.univ (m := xM) (Finset.subset_univ _)) $$ Hx; iintro Hx
  rw [read_x]
  iapply (wp_load 𝒱₀ (c : Thread nD τ) none Set.univ (m := wkM) (Finset.subset_univ _)) $$ Hwk; iintro Hwk
  rw [read_wk]
  iapply (wp_load 𝒱₀ (c : Thread nD τ) none Set.univ (m := wvM) (Finset.subset_univ _)) $$ Hwv; iintro Hwv
  rw [read_wv]
  iapply (wp_load_part c 0 fullShare rfl) $$ Hs0; iintro Hs0
  iapply (wp_store_own m ρ c f0) $$ Hs0; iintro ⟨Hs0, Hs0'⟩
  -- the own block to both neighbours
  iapply (wp_send_slot m ρ Ks c _ 0 (dev3_eq c) (O₃ c) (insert (SemLoc.reg barS, ()) W) b0 0 1 rfl rfl rfl (source_0 c)) $$ [Hs0 Hd0 HO HtS0 HtV0]
  · unfold sendPre sendPay part
    isplitr; · iexact HR
    isplitl [Hs0]; · iexact Hs0
    isplitl [Hd0]; · iexact Hd0
    isplitl [HO]; · iexact HO
    isplitl [HtS0]; · iexact HtS0
    iexact HtV0
  iintro ⟨HcS0, HO⟩
  iapply (wp_send_slot m ρ Ks c _ 1 (dev4_eq c) (O₄ c) (insert (SemLoc.reg barS, ()) W) b1 0 2 rfl rfl rfl (source_1 c)) $$ [Hs0' Hd1 HO HtS1 HtV1]
  · unfold sendPre sendPay part
    isplitr; · iexact HR
    isplitl [Hs0']; · iexact Hs0'
    isplitl [Hd1]; · iexact Hd1
    isplitl [HO]; · iexact HO
    isplitl [HtS1]; · iexact HtS1
    iexact HtV1
  iintro ⟨HcS1, HO⟩
  iapply (wp_load 𝒱₀ (c : Thread nD τ) none Set.univ (m := wqM) (Finset.subset_univ _)) $$ Hwq; iintro Hwq
  rw [read_wq]
  -- the left neighbour's block arrives; its first half goes on
  iapply (wp_wait_own m ρ Ks c (true, 0) rfl rfl (O := O₄ c) (mayWait_of c _ (above₄ c) ((lv_kcell c (some (true, 0))).trans_lt (by decide)))
    (pay := part c (slotSet 1) fullShare (full m ρ c)) (rest_recv m ρ c 0)) $$ [HcV0 HO HaV0]
  · isplitr; · iexact HR
    isplitr; · iexact Hlev
    isplitl [HcV0]; · iexact HcV0
    isplitl [HO]; · iexists _; iexact HO
    iexact HaV0
  iintro ⟨⟨%W0, HO⟩, HzV0, Hp⟩
  ihave Hp := (Entails.of_eq (slot_pieces c 1 (full m ρ c))) $$ Hp
  icases Hp with ⟨⟨Hl10, Hl11⟩, Hl1⟩
  iapply (wp_send_half m ρ Ks c _ 2 (dev5_eq c) (O₅ c) W0 b2 1 3 0 rfl rfl rfl (source_2 c)) $$ [Hl10 Hd2 HO HtS2 HtV2]
  · unfold sendPre sendPay part
    isplitr; · iexact HR
    isplitl [Hl10]; · iexact Hl10
    isplitl [Hd2]; · iexact Hd2
    isplitl [HO]; · iexact HO
    isplitl [HtS2]; · iexact HtS2
    iexact HtV2
  iintro ⟨HcS2, HO⟩
  -- the right neighbour's block arrives; its last half goes on
  iapply (wp_wait_own m ρ Ks c (true, 1) rfl rfl (O := O₅ c) (mayWait_of c _ (above₅ c) ((lv_kcell c (some (true, 1))).trans_lt (by decide)))
    (pay := part c (slotSet 2) fullShare (full m ρ c)) (rest_recv m ρ c 1)) $$ [HcV1 HO HaV1]
  · isplitr; · iexact HR
    isplitr; · iexact Hlev
    isplitl [HcV1]; · iexact HcV1
    isplitl [HO]; · iexists _; iexact HO
    iexact HaV1
  iintro ⟨⟨%W1, HO⟩, HzV1, Hp⟩
  ihave Hp := (Entails.of_eq (slot_pieces c 2 (full m ρ c))) $$ Hp
  icases Hp with ⟨⟨Hl20, Hl21⟩, Hl2⟩
  iapply (wp_send_half m ρ Ks c _ 3 (dev6_eq c) 0 W1 b3 2 3 1 rfl rfl rfl (source_3 c)) $$ [Hl21 Hd3 HO HtS3 HtV3]
  · unfold sendPre sendPay part
    isplitr; · iexact HR
    isplitl [Hl21]; · iexact Hl21
    isplitl [Hd3]; · iexact Hd3
    isplitl [HO]; · iexact HO
    isplitl [HtS3]; · iexact HtS3
    iexact HtV3
  iintro ⟨HcS3, HO⟩
  iapply (wp_load_part c 1 fullShare.right (read_full m ρ c 1)) $$ Hl1; iintro Hl1
  iapply (wp_load_part c 2 fullShare.right (read_full m ρ c 2)) $$ Hl2; iintro Hl2
  -- the two halves of the opposite device's block
  iapply (wp_wait_own m ρ Ks c (true, 2) rfl rfl (O := 0) (mayWait_zero c _) (pay := part c (halfSet 3 0) fullShare (full m ρ c)) (rest_recv m ρ c 2)) $$ [HcV2 HO HaV2]
  · isplitr; · iexact HR
    isplitr; · iexact Hlev
    isplitl [HcV2]; · iexact HcV2
    isplitl [HO]; · iexists _; iexact HO
    iexact HaV2
  iintro ⟨HO, HzV2, Hl30⟩
  iapply (wp_wait_own m ρ Ks c (true, 3) rfl rfl (O := 0) (mayWait_zero c _) (pay := part c (halfSet 3 1) fullShare (full m ρ c)) (rest_recv m ρ c 3)) $$ [HcV3 HO HaV3]
  · isplitr; · iexact HR
    isplitr; · iexact Hlev
    isplitl [HcV3]; · iexact HcV3
    isplitl [HO]; · iexact HO
    iexact HaV3
  iintro ⟨HO, HzV3, Hl31⟩
  ihave Hl3 := (Entails.of_eq (part_halves c 3 fullShare (full m ρ c)).symm) $$ [Hl30 Hl31]
  · isplitl [Hl30]; · iexact Hl30
    iexact Hl31
  iapply (wp_load_part c 3 fullShare (read_full m ρ c 3)) $$ Hl3; iintro Hl3
  iapply (wp_load 𝒱₀ (c : Thread nD τ) none Set.univ (m := woM) (Finset.subset_univ _)) $$ Hwo; iintro Hwo
  rw [read_wo]
  iapply (wp_load 𝒱₀ (c : Thread nD τ) none Set.univ (m := oM) (Finset.subset_univ _)) $$ Hout; iintro Hout
  iapply (wp_store 𝒱₀ (c : Thread nD τ) none Set.univ (m := oM) (r := xR) (Mk := Finset.univ) (Finset.subset_univ _)) $$ Hout; iintro Hout
  rw [write_out, asBlock_asSlot, asBlock_asSlot, asBlock_asSlot]
  -- what the transfers borrowed comes back
  iapply (wp_wait_own m ρ Ks c (false, 0) (dst := slotM 0) rfl rfl (O := 0) (mayWait_zero c _) (pay := part c (slotSet 0) fullShare.left (full m ρ c)) (rest_send m ρ c 0)) $$ [HcS0 HO HaS0]
  · isplitr; · iexact HR
    isplitr; · iexact Hlev
    isplitl [HcS0]; · iexact HcS0
    isplitl [HO]; · iexact HO
    iexact HaS0
  iintro ⟨HO, HzS0, Hs0⟩
  iapply (wp_wait_own m ρ Ks c (false, 1) (dst := slotM 0) rfl rfl (O := 0) (mayWait_zero c _) (pay := part c (slotSet 0) fullShare.right (full m ρ c)) (rest_send m ρ c 1)) $$ [HcS1 HO HaS1]
  · isplitr; · iexact HR
    isplitr; · iexact Hlev
    isplitl [HcS1]; · iexact HcS1
    isplitl [HO]; · iexact HO
    iexact HaS1
  iintro ⟨HO, HzS1, Hs0'⟩
  iapply (wp_wait_own m ρ Ks c (false, 2) (dst := halfM 1 0) rfl rfl (O := 0) (mayWait_zero c _) (pay := part c (halfSet 1 0) fullShare.left (full m ρ c)) (rest_send m ρ c 2)) $$ [HcS2 HO HaS2]
  · isplitr; · iexact HR
    isplitr; · iexact Hlev
    isplitl [HcS2]; · iexact HcS2
    isplitl [HO]; · iexact HO
    iexact HaS2
  iintro ⟨HO, HzS2, Hl10⟩
  iapply (wp_wait_own m ρ Ks c (false, 3) (dst := halfM 2 1) rfl rfl (O := 0) (mayWait_zero c _) (pay := part c (halfSet 2 1) fullShare.left (full m ρ c)) (rest_send m ρ c 3)) $$ [HcS3 HO HaS3]
  · isplitr; · iexact HR
    isplitr; · iexact Hlev
    isplitl [HcS3]; · iexact HcS3
    isplitl [HO]; · iexact HO
    iexact HaS3
  iintro ⟨⟨%W2, HO⟩, HzS3, Hl21⟩
  ihave Hscr := (Entails.of_eq (rejoin m ρ c)) $$ [Hs0 Hs0' Hl10 Hl11 Hl1 Hl20 Hl21 Hl2 Hl3]
  · isplitl [Hs0 Hs0']
    · isplitl [Hs0]; · iexact Hs0
      iexact Hs0'
    isplitl [Hl10 Hl11 Hl1]
    · isplitl [Hl10 Hl11]
      · isplitl [Hl10]; · iexact Hl10
        iexact Hl11
      iexact Hl1
    isplitl [Hl20 Hl21 Hl2]
    · isplitl [Hl20 Hl21]
      · isplitl [Hl20]; · iexact Hl20
        iexact Hl21
      iexact Hl2
    iexact Hl3
  rw [wp_ret]; imodintro
  iapply Hk
  unfold bodyPost Φ₁ scratch zeros Dat.owesAt Pipeline.owesWithin
  simp only [bigSep_fin4]
  rw [show (dats m ρ 0 c).owed t₀.succ = 0 from rfl]
  isplitl [Hscr HzB HzS0 HzS1 HzS2 HzS3 HzV0 HzV1 HzV2 HzV3]
  · isplitl [Hscr]; · iexists _; iexact Hscr
    isplitl [HzB]; · iexact HzB
    isplitl [HzS0 HzS1 HzS2 HzS3]
    · isplitl [HzS0]; · iexact HzS0
      isplitl [HzS1]; · iexact HzS1
      isplitl [HzS2]; · iexact HzS2
      iexact HzS3
    isplitl [HzV0]; · iexact HzV0
    isplitl [HzV1]; · iexact HzV1
    isplitl [HzV2]; · iexact HzV2
    iexact HzV3
  isplitl [HO]
  · iexists W2
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwk]
  · iexists _; isplitr; · (ipureintro; rfl)
    iexact Hwk
  isplitl [Hwv]
  · iexists _; isplitr; · (ipureintro; rfl)
    iexact Hwv
  isplitl [Hwo]
  · iexists _; isplitr; · (ipureintro; rfl)
    iexact Hwo
  iexists _; isplitr; · (ipureintro; rfl)
  iexact Hout
end
end Cert.KernelIdeal.Attn
end
-- ==== Proof.Launch.lean ====
module

public import proofs.«01_k».proof.Proof.Exec
public import Idealize.ShloMosaic.Lib.Pipeline.CollectiveSegs

/-! The launch of the four kernels: the tokens and credits each device starts with, and the run of `main`. -/

@[expose] public section
noncomputable section
namespace Cert.KernelIdeal.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- Owning a whole staging buffer is the assertion that it holds its contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body. -/
def handed (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the pipeline hands the body is what the body starts with. -/
theorem handed_body (c : Dev nD) : handed m ρ c ⊢ iprop(∃ K, bodyPre m ρ K c) := by
  unfold handed Φ₀ start bodyPre
  iintro ⟨⟨⟨⟨%K, Hg⟩, Hc, Hl⟩, Hscr⟩, Hrest⟩
  iexists K
  isplitr [Hrest]
  · isplitl [Hg]; · iexact Hg
    isplitl [Hc]; · iexact Hc
    isplitl [Hl]; · iexact Hl
    iexact Hscr
  iexact Hrest

set_option maxRecDepth 16384 in
/-- The body meets what the launch asks of it. -/
theorem body_obligation (c : Dev nD) : BodyObligation (dats (F := F) m ρ 0 c) (defs₀ (F := F)) 𝒱₀ () Set.univ := fun t => by
  rw [fin_N t, bigSep_W0, bigSep_W0]
  simp only [owns_stage]
  show handed m ρ c ⊢ wp frame (wpE (defs₀ (F := F)) 𝒱₀ c none) Set.univ
    (cc0__body (F := F) xM (Memref.isWhole_whole _) wqM (Memref.isWhole_whole _) wkM (Memref.isWhole_whole _) wvM (Memref.isWhole_whole _)
      woM (Memref.isWhole_whole _) oM (Memref.isWhole_whole _) sM (Memref.isWhole_whole _) cc0_scratch1 cc0_scratch2) (fun _ => bodyPost m ρ c)
  rw [body_flat]
  refine (handed_body m ρ c).trans ?_
  iintro ⟨%K, H⟩
  iapply (sound_body m ρ K c fun _ => bodyPost m ρ c)
  isplitl [H]; · iexact H
  iintro H; iexact H

/-! ## Sums over the cells -/

/-- A product over a device's own semaphores, split into send and receive. -/
theorem bigSep_own (P : Own → sProp 𝕄) : bigSep Finset.univ P
    = iprop((bigSep Finset.univ fun s => P (false, s)) ∗ bigSep Finset.univ fun s => P (true, s)) := by
  rw [bigSep_univ_prod]
  exact bigSep_univ_eq_bigSepL [false, true] (by decide) (by decide) _

/-- A product over a device's cells, split into its own semaphores and the barrier. -/
theorem bigSep_cell (P : Cell → sProp 𝕄) : bigSep Finset.univ P
    = iprop((bigSep Finset.univ fun o : Own => P (some o)) ∗ P none) := by
  rw [bigSep_univ_equiv (Equiv.optionEquivSumPUnit.{0} Own).symm, bigSep_univ_sum, bigSep_univ_of_subsingleton PUnit.unit]
  rfl

/-- The duties of a device's cells: the barrier's two, one of each of its own semaphores. -/
abbrev Duty : Type := Bool ⊕ Own
/-- The cell, round and name of a duty. -/
abbrev tokOf (cj : Dev nD × Duty) : GSem nD τ sig × ℕ × Bool := match cj.2 with
  | .inl d => (barCell cj.1, 0, d)
  | .inr o => (kcell (cj.1, some o), 0, false)

/-- Different duties have different tokens. -/
theorem tokOf_inj : Function.Injective (tokOf : Dev nD × Duty → GSem nD τ sig × ℕ × Bool) := by
  rintro ⟨c, d | o⟩ ⟨c', d' | o'⟩ h
  · have h1 : c = c' := (kcell_eq_iff.mp (congrArg Prod.fst h)).1
    have h2 : d = d' := congrArg (fun x : GSem nD τ sig × ℕ × Bool => x.2.2) h
    rw [h1, h2]
  · exact absurd (kcell_eq_iff.mp (congrArg Prod.fst h)).2 (by simp)
  · exact absurd (kcell_eq_iff.mp (congrArg Prod.fst h)).2 (by simp)
  · have h1 : c = c' ∧ some o = some o' := kcell_eq_iff.mp (congrArg Prod.fst h)
    rw [h1.1, Option.some.inj h1.2]

/-- The cells of the schedule. -/
def ringCells : Finset (GSem nD τ sig) := Finset.univ.map ⟨kcell, kcell_inj⟩
/-- The tokens of its duties. -/
def ringToks : Finset (GSem nD τ sig × ℕ × Bool) := Finset.univ.map ⟨tokOf, tokOf_inj⟩

/-- The ghost state at launch: the pipeline's and the schedule's. -/
def u₀ : UU := (initOf (Pipeline.cells cfgs cellOf_inj) (Pipeline.launchToks cfgs cellOf_inj), initOf ringCells ringToks)

/-- The tokens of the duties of device `c`'s own cells. -/
def toks (c : Dev nD) : sProp 𝕄 := bigSep Finset.univ fun j : Duty => dutyTok ER (tokOf (c, j)).1 (tokOf (c, j)).2.1 (tokOf (c, j)).2.2

/-- A device's tokens, kind by kind. -/
theorem toks_eq (c : Dev nD) : (toks c : sProp 𝕄)
    = iprop((dutyTok ER (barCell c) 0 false ∗ dutyTok ER (barCell c) 0 true)
      ∗ (bigSep Finset.univ fun s : Fin 4 => dutyTok ER (sendCell c s) 0 false) ∗ bigSep Finset.univ fun s : Fin 4 => dutyTok ER (recvCell c s) 0 false) := by
  unfold toks
  rw [bigSep_univ_sum, bigSep_own]
  exact congrArg (fun X : sProp 𝕄 => iprop(X ∗ _)) (bigSep_univ_eq_bigSepL [false, true] (by decide) (by decide) _)

/-- What a device is dealt of the schedule before its cells are allocated. -/
def G (c : Dev nD) : sProp 𝕄 :=
  iprop((bigSep Finset.univ fun k : Cell => roundState ER (ringRd m ρ) (kcell (c, k)) 0)
    ∗ (bigSep Finset.univ fun k : Cell => iprop(atPos ER (kcell (c, k)) 0 ∅ 0 ∗ reached ER (kcell (c, k)) 0)) ∗ toks c)
/-- What it is dealt after. -/
def G' (c : Dev nD) : sProp 𝕄 := iprop(∃ K, ghost m ρ K c)

/-- The ghost state of the schedule at launch. -/
theorem fund_ring : BI.own (ER (initOf ringCells ringToks)) ⊢ (|==> bigSep Finset.univ (G m ρ) : sProp 𝕄) := by
  have hX (P : GSem nD τ sig → sProp 𝕄) : bigSep ringCells P = bigSep Finset.univ fun c : Dev nD => bigSep Finset.univ fun k : Cell => P (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- A device's own semaphores at launch. -/
theorem ownSems0_eq (c : Dev nD) : (Pipeline.ownSems0 (Ix := Unit) (Name := ℕ) (U := UU) (Lvl := ℕ) (Val := Elt F) (τ := τ) osem c : sProp 𝕄)
    = bigSep Finset.univ fun o : Own => semVal (kcell (c, some o)) 0 := rfl
/-- The barrier is the one other semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are allocated from its semaphores at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hrest⟩
  ihave Hv := (Entails.of_eq ((bigSep_cell fun k => (semVal (kcell (c, k)) 0 : sProp 𝕄)).trans
    (by rw [← ownSems0_eq, ← unscopedSems0_eq])).symm) $$ [Hos Hus]
  · isplitl [Hos] <;> iassumption
  imod (show iprop((bigSep Finset.univ fun k : Cell => semVal (kcell (c, k)) 0) ∗ bigSep Finset.univ fun k : Cell => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  iexact Hrest

/-! ## The tokens dealt round the ring -/

/-- The duties' tokens go to those who pay them. -/
theorem toks_around : (bigSep Finset.univ fun c : Dev nD => (toks c : sProp 𝕄)) ⊢ bigSep Finset.univ fun c : Dev nD => payToks c := by
  have hr : (bigSep Finset.univ fun c : Dev nD => bigSep Finset.univ fun s : Fin 4 => (dutyTok ER (recvCell c s) 0 false : sProp 𝕄))
      = bigSep Finset.univ fun c : Dev nD => bigSep Finset.univ fun s : Fin 4 => dutyTok ER (recvCell (peer s c) s) 0 false := by
    rw [bigSep_univ_comm, bigSep_univ_comm fun c s => (dutyTok ER (recvCell (peer s c) s) 0 false : sProp 𝕄)]
    exact bigSep_congr fun s _ => bigSep_univ_equiv (peerE s) fun c => (dutyTok ER (recvCell c s) 0 false : sProp 𝕄)
  unfold payToks
  simp only [toks_eq]
  rw [bigSep_sep', bigSep_sep', bigSep_sep', bigSep_sep', bigSep_sep', bigSep_sep', hr,
    bigSep_univ_equiv rightE.symm (fun c : Dev nD => (dutyTok ER (barCell c) 0 false : sProp 𝕄)),
    bigSep_univ_equiv rightE (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

/-- A device's places at its cells, kind by kind. -/
theorem places_of (c : Dev nD) : (bigSep Finset.univ fun k : Cell => (atPos ER (kcell (c, k)) 0 ∅ 0 : sProp 𝕄)) ⊢ places c := by
  rw [bigSep_cell, bigSep_own]
  unfold places
  iintro ⟨⟨H1, H2⟩, H3⟩
  isplitl [H3]; · iexact H3
  isplitl [H1]; · iexact H1
  iexact H2

/-- The schedule's state, sorted by device. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (ringRd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd m ρ) κ (kcell ck) : sProp 𝕄))) $$ HI
  icases HK with ⟨%K, #HI⟩
  ihave Htk := (toks_around (F := F)) $$ Htok
  ihave Hpl := (show (bigSep Finset.univ fun c : Dev nD => bigSep Finset.univ fun k : Cell => (atPos ER (kcell (c, k)) 0 ∅ 0 : sProp 𝕄))
    ⊢ bigSep Finset.univ fun c : Dev nD => places c from bigSep_mono fun c _ => places_of (F := F) c) $$ Hat
  iapply (bigSep_with_persistent (R := records m ρ K) (Φ := fun c => iprop(places c ∗ payToks c)) fun c _ =>
    show iprop(records m ρ K ∗ places c ∗ payToks c) ⊢ G' m ρ c from by unfold G' ghost; iintro H; iexists K; iexact H)
  isplitr
  · unfold records; isplitl; · iexact HI
    iexact HR
  rw [bigSep_sep']
  isplitl [Hpl]; · iexact Hpl
  iexact Htk

/-- All devices' counters together fund the schedule. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a tally at one cell counts at another. -/
theorem tally_cell (d c : Dev nD) (k l : Cell) (n : ℕ) :
    (tallyAt (kcell (d, l)) () n : CellTallies nD τ sig Unit) (kcell (c, k)) () = if c = d ∧ k = l then n else 0 := by
  rw [tallyAt_apply]
  exact if_congr ⟨fun h => kcell_eq_iff.mp h.1, fun h => ⟨kcell_eq_iff.mpr h, rfl⟩⟩ rfl rfl

/-- What device `d` owes a cell of device `c`. -/
theorem owed_cell (d c : Dev nD) (k : Cell) : O₀ d (kcell (c, k)) ()
    = (if c = peer 3 d ∧ k = some (true, 3) then amt 3 else 0) + (if c = peer 2 d ∧ k = some (true, 2) then amt 2 else 0)
      + (if c = peer 1 d ∧ k = some (true, 1) then amt 1 else 0) + (if c = peer 0 d ∧ k = some (true, 0) then amt 0 else 0)
      + (if c = right d ∧ k = none then 1 else 0) + (if c = left d ∧ k = none then 1 else 0) := by
  unfold O₀ O₁ O₂ O₃ O₄ O₅ due
  simp only [Pi.add_apply, Finsupp.add_apply, tally_cell, Pi.zero_apply, Finsupp.zero_apply, Nat.zero_add]

/-- Just one device has a given device as its partner. -/
theorem sum_peer (e : Dev nD ≃ Dev nD) (c : Dev nD) (n : ℕ) : (∑ d : Dev nD, if c = e d then n else 0) = n := by
  rw [Finset.sum_congr rfl fun d _ => if_congr (Equiv.symm_apply_eq e).symm rfl rfl, Finset.sum_ite_eq, if_pos (Finset.mem_univ _)]

/-- A barrier cell is owed two signals at launch. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_cell d c none]
  simp only [reduceCtorEq, and_false, if_false, and_true, Nat.zero_add, Finset.sum_add_distrib]
  rw [show (∑ d : Dev nD, if c = right d then 1 else 0) = 1 from sum_peer rightE c 1,
    show (∑ d : Dev nD, if c = left d then 1 else 0) = 1 from sum_peer rightE.symm c 1]

/-- A receive cell is owed one copy at launch. -/
theorem launch_recv (c : Dev nD) (s : Fin 4) :
    tallyOn (recvCell c s) (launchCredit (Pipeline.owing O₀) 0 (recvCell c s)) = (tallyAt (recvCell c s) () (amt s) : CellTallies nD τ sig Unit) := by
  unfold tallyAt; refine congrArg _ (Finsupp.ext fun u => ?_); cases u
  rw [Pipeline.launchCredit_owing, Finsupp.single_eq_same, Finset.sum_congr rfl fun d _ => owed_cell d c _]
  refine Eq.trans (Finset.sum_congr rfl fun d _ => ?_) (sum_peer (peerE s) c (amt s))
  have h (t : Fin 4) : ((some (true, s) : Cell) = some (true, t)) ↔ s = t := by
    rw [Option.some.injEq, Prod.mk.injEq]; exact ⟨fun h => h.2, fun h => ⟨rfl, h⟩⟩
  simp only [h, reduceCtorEq, and_false, if_false, Nat.add_zero]
  fin_cases s <;> simp

/-- A device's credit at launch. -/
theorem creds (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map, bigSep_cell, bigSep_own]
  show iprop((_ ∗ (bigSep Finset.univ fun s : Fin 4 => cred (tallyOn (recvCell c s) (launchCredit (Pipeline.owing O₀) 0 (recvCell c s)))))
    ∗ cred (tallyOn (barCell c) (launchCredit (Pipeline.owing O₀) 0 (barCell c)))) ⊢ iprop(_ ∗ _)
  iintro ⟨⟨-, HV⟩, HB⟩
  isplitl [HB]
  · rw [← launch_bar c]; iexact HB
  · rw [show (fun s => (cred (tallyAt (recvCell c s) () (amt s)) : sProp 𝕄)) = _ from funext fun s => congrArg _ (launch_recv c s).symm]
    iexact HV

/-! ## The run -/

/-- What a device is given at launch is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the scratch buffer, that is what it holds before its body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What a device holds after its body is what it must give back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_own]
  unfold Φ₁ scratch zeros
  iintro ⟨Hr, HzB, Hz⟩
  isplitl [HzB]; · iexact HzB
  isplitl [Hz] <;> iassumption

/-- A device may wait on a staging semaphore before its body and after it. -/
theorem mayWait_stage (c : Dev nD) (q : DmaSem sig) (hq : ∀ k : Cell, csem k ≠ .dma q) (O : CellTallies nD τ sig Unit)
    (h : O = O₀ c ∨ O = 0) : (levAts L lv : sProp 𝕄) ⊢ MayWait (c : Thread nD τ) (.dma q) () O := by
  rcases h with rfl | rfl
  · exact mayWait_of c _ (above₀ c) (by unfold lv; rw [which_eq_none hq]; exact Nat.one_pos)
  · exact mayWait_zero c _

/-- The waits of the staging copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The own semaphores are scoped, distinct, and none of them is a staging one. -/
theorem ownSemFacts : Pipeline.OwnSemFacts cfg0.spec osem := by decide
/-- Every window is held in full. -/
theorem share_eq (c : Dev nD) (w : Fin cfg0.W) : (dats m ρ 0 c).share w = fullShare := by unfold Dat.share; split <;> rfl

/-- What array `w` of device `c` ends with. -/
def finalA (c : Dev nD) (w : Fin cfg0.W) : Buf (Elt F) ((cfg0.win w).arr.view.loc (c : Thread nD τ)) := (dats m ρ 0 c).arrAt w cfg0.N

/-- The arrays end with their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- From any memory with zero counters every fair run of `main` on the four devices ends, with every array at its final
    contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn
end
-- ==== Proof.Frames.lean ====
module

public import proofs.«01_k».proof.Defs
public import proofs.«01_k».proof.Proof.Launch
public import proofs.«01_k».proof.Proof.Gen.Kernel
public import proofs.«01_k».proof.Proof.Gen.ReferenceIdeal.Run

/-! What the arrays hold after the run, and the frame claims. -/

@[expose] public section
noncomputable section
namespace Cert.KernelIdeal.Attn
open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The arrays after the run -/

/-- The input ends unchanged. -/
theorem final_arg0 (c : Dev nD) : finalA m ρ c (0 : Fin 6) = m ((c : Thread nD τ).loc main_arg0) :=
  (dats (F := F) m ρ 0 c).arrAt_in (0 : Fin 6) rfl _
/-- So do the query weights, -/
theorem final_arg1 (c : Dev nD) : finalA m ρ c (1 : Fin 6) = m ((c : Thread nD τ).loc main_arg1) :=
  (dats (F := F) m ρ 0 c).arrAt_in (1 : Fin 6) rfl _
/-- the key weights, -/
theorem final_arg2 (c : Dev nD) : finalA m ρ c (2 : Fin 6) = m ((c : Thread nD τ).loc main_arg2) :=
  (dats (F := F) m ρ 0 c).arrAt_in (2 : Fin 6) rfl _
/-- the value weights -/
theorem final_arg3 (c : Dev nD) : finalA m ρ c (3 : Fin 6) = m ((c : Thread nD τ).loc main_arg3) :=
  (dats (F := F) m ρ 0 c).arrAt_in (3 : Fin 6) rfl _
/-- and the output weights. -/
theorem final_arg4 (c : Dev nD) : finalA m ρ c (4 : Fin 6) = m ((c : Thread nD τ).loc main_arg4) :=
  (dats (F := F) m ρ 0 c).arrAt_in (4 : Fin 6) rfl _

/-- The five arguments hold what they held, and every counter is zero. -/
def Kept : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

/-- What the run leaves entails that the arguments are kept. -/
theorem kept_of_QC {r : PUnit × MemSt nD τ sig (Elt F)} (h : QC m ρ r ∧ r.2.sem = fun _ => 0) : Kept m r :=
  ⟨fun c => ⟨(h.1 c (0 : Fin 6)).trans (final_arg0 m ρ c), (h.1 c (1 : Fin 6)).trans (final_arg1 m ρ c),
    (h.1 c (2 : Fin 6)).trans (final_arg2 m ρ c), (h.1 c (3 : Fin 6)).trans (final_arg3 m ρ c),
    (h.1 c (4 : Fin 6)).trans (final_arg4 m ρ c)⟩, h.2⟩

/-- Every run keeps the arguments and ends with zero counters. -/
theorem kept : θ_run defs (onTc (τ := τ) (main (F := F))) ⟨m, fun _ => 0, ρ⟩ (Kept m) :=
  (θ_run defs _ _).mono (fun _ h => kept_of_QC m ρ h) (run_main m ρ)

/-! ## The result array -/

/-- The staged input is the argument. -/
theorem read_arg0 (c : Dev nD) : xAt m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _
/-- The staged query weights are the argument. -/
theorem read_arg1 (c : Dev nD) : wqAt m ρ c = m ((c : Thread nD τ).loc main_arg1) :=
  Memref.read_access_unit_zero (Elt F) main_arg1
    (show (fun a => (win0_1.index (0 : Fin 1)) a * main_arg1.ty.shape.size a) = fun _ => 0 from
      funext fun a => by fin_cases a <;> decide) (fun a => by fin_cases a <;> decide) _
/-- The staged key weights are the argument. -/
theorem read_arg2 (c : Dev nD) : wkAt m ρ c = m ((c : Thread nD τ).loc main_arg2) :=
  Memref.read_access_unit_zero (Elt F) main_arg2
    (show (fun a => (win0_2.index (0 : Fin 1)) a * main_arg2.ty.shape.size a) = fun _ => 0 from
      funext fun a => by fin_cases a <;> decide) (fun a => by fin_cases a <;> decide) _
/-- The staged value weights are the argument. -/
theorem read_arg3 (c : Dev nD) : wvAt m ρ c = m ((c : Thread nD τ).loc main_arg3) :=
  Memref.read_access_unit_zero (Elt F) main_arg3
    (show (fun a => (win0_3.index (0 : Fin 1)) a * main_arg3.ty.shape.size a) = fun _ => 0 from
      funext fun a => by fin_cases a <;> decide) (fun a => by fin_cases a <;> decide) _
/-- The staged output weights are the argument. -/
theorem read_arg4 (c : Dev nD) : woAt m ρ c = m ((c : Thread nD τ).loc main_arg4) :=
  Memref.read_access_unit_zero (Elt F) main_arg4
    (show (fun a => (win0_4.index (0 : Fin 1)) a * main_arg4.ty.shape.size a) = fun _ => 0 from
      funext fun a => by fin_cases a <;> decide) (fun a => by fin_cases a <;> decide) _

/-- The key and value block of device `c`, from its arguments. -/
def blockOf (c : Dev nD) : FVec F S512x512 .bf16 :=
  kvBlock c (m ((c : Thread nD τ).loc main_arg0)) (m ((c : Thread nD τ).loc main_arg2)) (m ((c : Thread nD τ).loc main_arg3))

/-- The result of device `c`, from the arguments of all devices. -/
def resultOf (c : Dev nD) : FVec F S2x256x768 .f32 :=
  k0_pay271 (context (queries c (m ((c : Thread nD τ).loc main_arg0)) (m ((c : Thread nD τ).loc main_arg1)))
      (blockOf m (source c 0)) (blockOf m (source c 1)) (blockOf m (source c 2)) (blockOf m (source c 3)))
    (m ((c : Thread nD τ).loc main_arg4))

/-- The block that a device sends round, from its arguments. -/
theorem blkAt_eq (c : Dev nD) : blkAt m ρ c = blockOf m c := by
  unfold blkAt blockOf
  rw [read_arg0, read_arg2, read_arg3]

/-- What a device stores, from the arguments. -/
theorem outAt_eq (c : Dev nD) : outAt m ρ c = resultOf m c := by
  unfold outAt resultOf
  rw [read_arg0, read_arg1, read_arg4]
  simp only [blkAt_eq]

/-- The result array of a device. -/
theorem final_out (c : Dev nD) : finalA m ρ c (5 : Fin 6) = resultOf m c := by
  have ho : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← outAt_eq m ρ c, ← ho]
  exact (Memref.read_access_unit_zero (Elt F) main_v1
    (show (fun a => (win0_5.index (0 : Fin 1)) a * main_v1.ty.shape.size a) = fun _ => 0 from
      funext fun a => by fin_cases a <;> decide) (fun a => by fin_cases a <;> decide) _).symm

/-- The run of the kernel, with its result. -/
theorem run_result : θ_run defs (onTc (τ := τ) (main (F := F))) ⟨m, fun _ => 0, ρ⟩
    (fun r => (∀ c : Dev nD, r.2.mem ((c : Thread nD τ).loc main_v1) = resultOf m c) ∧ Kept m r) :=
  (θ_run defs _ _).mono (fun _ h => ⟨fun c => (h.1 c (5 : Fin 6)).trans (final_out m ρ c), kept_of_QC m ρ h⟩) (run_main m ρ)

end Cert.KernelIdeal.Attn

namespace Cert.Proof
open Idealize.ShloMosaic Idealize.SL.Sem

/-! ## The frames -/

/-- The two printed bodies are one. -/
theorem body_eq {F : FTy → Type} [FloatOps F] : Cert.Kernel.cc0__body (F := F) = Cert.KernelIdeal.cc0__body := rfl

/-- The two printed main functions are one. -/
theorem main_eq {F : FTy → Type} [FloatOps F] : Cert.Kernel.main (F := F) = Cert.KernelIdeal.main := rfl

/-- So are the tables of their bodies -/
theorem table_eq {F : FTy → Type} [FloatOps F] : Cert.Kernel.defs₀ (F := F) = Cert.KernelIdeal.defs₀ := by
  unfold Cert.Kernel.defs₀ Cert.KernelIdeal.defs₀
  refine congrArg Defs.onTc ?_
  funext l a
  fin_cases l
  obtain ⟨t, s⟩ := a
  show Cert.Kernel.cc0__body (F := F) _ _ _ _ _ _ _ _ _ _ _ _ _ _ _ _
    = Cert.KernelIdeal.cc0__body (F := F) _ _ _ _ _ _ _ _ _ _ _ _ _ _ _ _
  rw [body_eq]

/-- and their definitions. -/
theorem defs_eq {F : FTy → Type} [FloatOps F] : Cert.Kernel.defs (F := F) = Cert.KernelIdeal.defs :=
  congrArg (Pipeline.defs (Cert.KernelIdeal.pcfgs (F := F))) table_eq

/-- The two printed texts of the kernel are one program, so its run at bits is the run over any float values. -/
theorem frame_kernel : Cert.quiescent_Kernel := fun m ρ _ => by
  rw [defs_eq, main_eq]
  exact Cert.KernelIdeal.Attn.kept (F := Bits) m ρ

/-- The frame of the idealized kernel. -/
theorem frame_kernelIdeal : Cert.quiescent_KernelIdeal := fun m ρ _ => Cert.KernelIdeal.Attn.kept (F := Ideal) m ρ

/-- The frame of the reference. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Soft.lean ====
module

public import Idealize.ShloMosaic.PureOps.Ideal.Laws

/-! Softmax over the extended reals, taken block by block with a running maximum, or in one pass. The scores are real;
the values that the weights multiply may be infinite. -/

@[expose] public section
noncomputable section
namespace Cert.Soft
open Idealize.ShloMosaic

/-! ## Sums and maxima -/

/-- A sum times a nonnegative real. -/
theorem sum_mul_real {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih, mul_comm, mul_comm (f a), mul_comm (∑ i ∈ S, f i)]
    exact EReal.left_distrib_of_nonneg_of_ne_top (by exact_mod_cast hr) (EReal.coe_ne_top r) _ _

/-- A sum of reals is a real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of a real and finitely many reals is real. -/
theorem fold_max_real {ι : Type} (S : Finset ι) (f : ι → ℝ) (m : ℝ) :
    ∃ M : ℝ, max (m : EReal) (S.fold max ⊥ fun i => (f i : EReal)) = M := by
  classical
  induction S using Finset.induction_on with
  | empty => exact ⟨m, by simp⟩
  | insert a S ha ih =>
    obtain ⟨M, hM⟩ := ih
    refine ⟨max (f a) M, ?_⟩
    rw [Finset.fold_insert ha, max_left_comm, hM]
    exact (EReal.coe_strictMono.monotone.map_max).symm

/-- The maximum of finitely many reals, at least one, is real. -/
theorem fold_max_real' {ι : Type} (S : Finset ι) (hS : S.Nonempty) (f : ι → ℝ) :
    ∃ M : ℝ, (S.fold max ⊥ fun i => (f i : EReal)) = M := by
  classical
  obtain ⟨a, ha⟩ := hS
  obtain ⟨M, hM⟩ := fold_max_real (S.erase a) f (f a)
  refine ⟨M, ?_⟩
  rw [← hM, ← Finset.insert_erase ha, Finset.fold_insert (Finset.notMem_erase a S), Finset.insert_erase ha]

/-! ## Block by block -/

variable {κ ι : Type} [DecidableEq κ] [Fintype ι]

/-- The running maximum `m`, sum of weights `d` and weighted sum `a` after the blocks `K`. -/
def Holds (s : κ → ι → ℝ) (v : κ → ι → EReal) (K : Finset κ) (m d a : EReal) : Prop :=
  ∃ M : ℝ, m = M ∧ d = ((∑ k ∈ K, ∑ j, Real.exp (s k j - M) : ℝ) : EReal)
    ∧ a = ∑ k ∈ K, ∑ j, ((Real.exp (s k j - M) : ℝ) : EReal) * v k j

/-- Before any block both sums are zero. -/
theorem holds_init (s : κ → ι → ℝ) (v : κ → ι → EReal) (m : ℝ) : Holds s v ∅ m 0 0 := ⟨m, rfl, by simp, by simp⟩

/-- Moving the maximum scales a weight. -/
theorem exp_shift (x M M' : ℝ) : Real.exp (x - M) * Real.exp (M - M') = Real.exp (x - M') := by
  rw [← Real.exp_add]; congr 1; ring

/-- One more block. -/
theorem holds_absorb {s : κ → ι → ℝ} {v : κ → ι → EReal} {K : Finset κ} {m d a : EReal} (h : Holds s v K m d a)
    {k : κ} (hk : k ∉ K) {m' : EReal} (hm' : m' = max m (Finset.univ.fold max ⊥ fun j => (s k j : EReal))) :
    Holds s v (insert k K) m'
      (d * Ideal.exp (m - m') + ∑ j, Ideal.exp ((s k j : EReal) - m'))
      (a * Ideal.exp (m - m') + ∑ j, Ideal.exp ((s k j : EReal) - m') * v k j) := by
  obtain ⟨M, rfl, rfl, rfl⟩ := h
  obtain ⟨M', hM'⟩ := fold_max_real Finset.univ (s k) M
  rw [hM'] at hm'
  subst hm'
  refine ⟨M', rfl, ?_, ?_⟩
  · rw [Finset.sum_insert hk]
    simp only [← EReal.coe_sub, Ideal.exp_coe]
    rw [← coe_sum, ← EReal.coe_mul, ← EReal.coe_add, add_comm]
    simp only [Finset.sum_mul, exp_shift]
  · rw [Finset.sum_insert hk]
    simp only [← EReal.coe_sub, Ideal.exp_coe]
    rw [add_comm, sum_mul_real _ _ (Real.exp_pos _).le]
    congr 1
    refine Finset.sum_congr rfl fun k _ => ?_
    rw [sum_mul_real _ _ (Real.exp_pos _).le]
    refine Finset.sum_congr rfl fun j _ => ?_
    rw [mul_right_comm, ← EReal.coe_mul, exp_shift]

/-- The weight of one score among all. -/
def share {κ : Type} [Fintype κ] (s : κ → ℝ) (k : κ) : ℝ := Real.exp (s k) / ∑ k, Real.exp (s k)

/-- The shares do not depend on the maximum that is subtracted. -/
theorem share_shift {κ : Type} [Fintype κ] (s : κ → ℝ) (M : ℝ) (k : κ) :
    Real.exp (s k - M) * (1 / ∑ k, Real.exp (s k - M)) = share s k := by
  unfold share
  simp only [sub_eq_add_neg, Real.exp_add, ← Finset.sum_mul]
  rw [mul_one_div, mul_div_mul_right _ _ (Real.exp_pos _).ne']

/-- After all blocks, the quotient is the average of the values by the scores' weights. -/
theorem holds_close [Fintype κ] [Nonempty κ] [Nonempty ι] {s : κ → ι → ℝ} {v : κ → ι → EReal} {m d a : EReal}
    (h : Holds s v Finset.univ m d a) :
    Ideal.div a d = ∑ k, ∑ j, v k j * (share (fun p : κ × ι => s p.1 p.2) (k, j) : EReal) := by
  obtain ⟨M, -, rfl, rfl⟩ := h
  have hpos : 0 < ∑ k, ∑ j, Real.exp (s k j - M) :=
    Finset.sum_pos (fun k _ => Finset.sum_pos (fun j _ => Real.exp_pos _) Finset.univ_nonempty) Finset.univ_nonempty
  rw [Ideal.div_coe hpos.ne', sum_mul_real _ _ (one_div_pos.2 hpos).le]
  refine Finset.sum_congr rfl fun k _ => ?_
  rw [sum_mul_real _ _ (one_div_pos.2 hpos).le]
  refine Finset.sum_congr rfl fun j _ => ?_
  rw [mul_right_comm, ← EReal.coe_mul, mul_comm]
  congr 2
  rw [← share_shift (fun p : κ × ι => s p.1 p.2) M (k, j), Fintype.sum_prod_type]

/-- The one-pass softmax of real scores. -/
theorem onePass {κ : Type} [Fintype κ] [Nonempty κ] (s : κ → ℝ) (k : κ) {m : EReal}
    (hm : m = Finset.univ.fold max ⊥ fun j => (s j : EReal)) :
    Ideal.div (Ideal.exp ((s k : EReal) - m)) (∑ j, Ideal.exp ((s j : EReal) - m)) = share s k := by
  obtain ⟨M, hM⟩ := fold_max_real' Finset.univ Finset.univ_nonempty s
  rw [hM] at hm
  subst hm
  simp only [← EReal.coe_sub, Ideal.exp_coe]
  have hpos : 0 < ∑ k, Real.exp (s k - M) := Finset.sum_pos (fun j _ => Real.exp_pos _) Finset.univ_nonempty
  rw [← coe_sum, Ideal.div_coe hpos.ne', ← EReal.coe_mul, share_shift]

/-- The weights do not depend on the order of the scores. -/
theorem share_equiv {κ κ' : Type} [Fintype κ] [Fintype κ'] (e : κ ≃ κ') (s : κ' → ℝ) (k : κ) :
    share (fun k => s (e k)) k = share s (e k) := by
  unfold share
  rw [Equiv.sum_comp e fun k => Real.exp (s k)]

end Cert.Soft
end
-- ==== Proof.Plain.lean ====
module

public import proofs.«01_k».proof.Proof.Soft
public import Idealize.ShloMosaic.Lib.Pointwise

/-! The attention with rotary embeddings, as plain formulas over the extended reals. -/

@[expose] public section
noncomputable section
namespace Cert.Plain
open Idealize.ShloMosaic Cert.Soft

/-- A matrix by its rows and columns. -/
def grid {m n : ℕ} {φ : FTy} (w : FVec Ideal ⟨2, ![m, n]⟩ φ) (i : Fin m) (j : Fin n) : EReal := w (ix2 i j)

/-- An array by its three coordinates. -/
def cube {k m n : ℕ} {φ : FTy} (x : FVec Ideal ⟨3, ![k, m, n]⟩ φ) (b : Fin k) (i : Fin m) (j : Fin n) : EReal := x (ix3 b i j)

/-- The angle of lane `o` at position `p`. -/
def turn (p o : ℕ) : ℝ := p * (1 / (10000 : ℝ) ^ (2 * ((o % 64 / 2 : ℕ) : ℝ) / 64))

/-- The other lane of the pair of lane `o`, with its sign. -/
def partner (t : Fin 256 → EReal) (o : Fin 256) : EReal :=
  if h : o.val % 2 = 0 then -t ⟨o.val + 1, by omega⟩ else t ⟨o.val - 1, by omega⟩

/-- A row whose lane pairs are turned by their angles at position `p`. -/
def twist (t : Fin 256 → EReal) (p : ℕ) (o : Fin 256) : EReal :=
  t o * (Real.cos (turn p o.val) : EReal) + partner t o * (Real.sin (turn p o.val) : EReal)

variable (x : Fin 2 → Fin 1024 → Fin 768 → EReal) (wq wk wv : Fin 768 → Fin 256 → EReal) (wo : Fin 256 → Fin 768 → EReal)

/-- A projection of the input. -/
def proj (w : Fin 768 → Fin 256 → EReal) (b : Fin 2) (p : Fin 1024) (o : Fin 256) : EReal := ∑ e, x b p e * w e o

/-- A turned projection. -/
def rot (w : Fin 768 → Fin 256 → EReal) (b : Fin 2) (p : Fin 1024) (o : Fin 256) : EReal := twist (proj x w b p) p.val o

/-- Lane `l` of head `h`. -/
def lane (h : Fin 4) (l : Fin 64) : Fin 256 := ⟨64 * h.val + l.val, by omega⟩

/-- The two lanes of a pair turn by one angle, whatever the head. -/
theorem turn_pair (p : ℕ) (h : Fin 4) (l : Fin 64) : turn p (2 * (l.val / 2)) = turn p (lane h l).val := by
  unfold turn
  rw [show 2 * (l.val / 2) % 64 / 2 = (lane h l).val % 64 / 2 by show _ = (64 * h.val + l.val) % 64 / 2; omega]

/-- The score of key `j` for query `i` in head `h`, as an extended real. -/
def scoreE (b : Fin 2) (h : Fin 4) (i j : Fin 1024) : EReal :=
  (∑ l, rot x wq b i (lane h l) * rot x wk b j (lane h l)) * Ideal.ofBits .f32 0x3E000000#32

/-- The score as a real. -/
def score (b : Fin 2) (h : Fin 4) (i j : Fin 1024) : ℝ := (scoreE x wq wk b h i j).toReal

/-- The average of the values by the weights of their scores. -/
def ctx (b : Fin 2) (i : Fin 1024) (h : Fin 4) (l : Fin 64) : EReal :=
  ∑ j, proj x wv b j (lane h l) * (share (score x wq wk b h i) j : EReal)

/-- The result. -/
def out (b : Fin 2) (i : Fin 1024) (o : Fin 768) : EReal :=
  ∑ k : Fin 256, ctx x wq wk wv b i ⟨k.val / 64, by omega⟩ ⟨k.val % 64, by omega⟩ * wo k o

/-! ## Finite inputs give finite scores -/

/-- An extended real that is finite. -/
def IsReal (e : EReal) : Prop := ∃ r : ℝ, e = r

/-- A finite extended real is its real part. -/
theorem IsReal.coe_toReal {e : EReal} (h : IsReal e) : ((e.toReal : ℝ) : EReal) = e := by
  obtain ⟨r, rfl⟩ := h; rw [EReal.toReal_coe]

/-- A real is finite. -/
theorem isReal_coe (r : ℝ) : IsReal (r : EReal) := ⟨r, rfl⟩

/-- Sums of reals are real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- Products of reals are real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The negative of a real is real. -/
theorem IsReal.neg {a : EReal} (ha : IsReal a) : IsReal (-a) := by
  obtain ⟨r, rfl⟩ := ha; exact ⟨-r, (EReal.coe_neg r).symm⟩

/-- Finite sums of reals are real. -/
theorem isReal_sum {ι : Type} (S : Finset ι) {f : ι → EReal} (h : ∀ i, IsReal (f i)) : IsReal (∑ i ∈ S, f i) := by
  choose g hg using h
  exact ⟨∑ i ∈ S, g i, by rw [coe_sum]; exact Finset.sum_congr rfl fun i _ => hg i⟩

/-- The scale of the scores. -/
theorem word_eighth : Ideal.ofBits .f32 0x3E000000#32 = ((0.125 : ℝ) : EReal) := by
  simp [Ideal.ofBits, Ideal.ieee, -EReal.coe_mul]; norm_num
/-- The base of the frequencies. -/
theorem word_ten_thousand : Ideal.ofBits .f32 0x461C4000#32 = ((10000 : ℝ) : EReal) := by
  simp [Ideal.ofBits, Ideal.ieee, -EReal.coe_mul]; norm_num
/-- The factor in the exponent of the kernel's frequencies. -/
theorem word_minus_two : Ideal.ofBits .f32 0xC0000000#32 = ((-2 : ℝ) : EReal) := by
  simp [Ideal.ofBits, Ideal.ieee, -EReal.coe_mul]; norm_num
/-- The width of a head. -/
theorem word_sixty_four : Ideal.ofBits .f32 0x42800000#32 = ((64 : ℝ) : EReal) := by
  simp [Ideal.ofBits, Ideal.ieee, -EReal.coe_mul]; norm_num
/-- The start of a maximum over a row. -/
theorem word_minus_infinity : Ideal.ofBits .f32 0xFF800000#32 = ⊥ := by
  simp [Ideal.ofBits, Ideal.ieee]
/-- The start of the running maximum is some real; which one does not matter. -/
theorem word_start : IsReal (Ideal.ofBits .f32 0xF149F2CA#32) := by
  simp [Ideal.ofBits, Ideal.ieee, -EReal.coe_mul]
  exact isReal_coe _

/-! ## Small naturals as words -/

/-- The word of a small natural, read as a signed integer, is that natural. -/
theorem toInt_small {n : ℕ} (h : n < 2 ^ 31) : (BitVec.ofNat 32 n).toInt = (n : ℤ) := by
  rw [BitVec.toInt_eq_toNat_of_lt] <;> rw [BitVec.toNat_ofNat] <;> omega

/-- The word of a small natural, cast to a float, is that natural. -/
theorem float_small {n : ℕ} (h : n < 2 ^ 31) :
    (FloatOps.sitofp (F := Ideal) .f32 (BitVec.ofNat 32 n) : EReal) = (((n : ℕ) : ℝ) : EReal) := by
  show (((BitVec.ofNat 32 n).toInt : ℝ) : EReal) = _
  rw [toInt_small h, Int.cast_natCast]

/-- The scale of the scores is real. -/
theorem isReal_eighth : IsReal (Ideal.ofBits .f32 0x3E000000#32) := ⟨_, word_eighth⟩

/-- Turned projections of real inputs by real weights are real. -/
theorem isReal_rot {x : Fin 2 → Fin 1024 → Fin 768 → EReal} {w : Fin 768 → Fin 256 → EReal}
    (hx : ∀ b p e, IsReal (x b p e)) (hw : ∀ e o, IsReal (w e o)) (b : Fin 2) (p : Fin 1024) (o : Fin 256) :
    IsReal (rot x w b p o) := by
  have hp : ∀ o, IsReal (proj x w b p o) := fun o => isReal_sum _ fun e => (hx b p e).mul (hw e o)
  unfold rot twist partner
  refine ((hp o).mul (isReal_coe _)).add (IsReal.mul ?_ (isReal_coe _))
  split
  · exact (hp _).neg
  · exact hp _

/-- So the scores are real. -/
theorem isReal_score {x : Fin 2 → Fin 1024 → Fin 768 → EReal} {wq wk : Fin 768 → Fin 256 → EReal}
    (hx : ∀ b p e, IsReal (x b p e)) (hq : ∀ e o, IsReal (wq e o)) (hk : ∀ e o, IsReal (wk e o))
    (b : Fin 2) (h : Fin 4) (i j : Fin 1024) : ((score x wq wk b h i j : ℝ) : EReal) = scoreE x wq wk b h i j :=
  IsReal.coe_toReal ((isReal_sum _ fun l => (isReal_rot hx hq b i _).mul (isReal_rot hx hk b j _)).mul isReal_eighth)

end Cert.Plain
end
-- ==== Proof.Rope.lean ====
module

public import proofs.«01_k».proof.Proof.Values
public import proofs.«01_k».proof.Proof.Plain
public import Idealize.ShloMosaic.Lib.Routing.Words

/-! What the kernel's projections and its rotary turn are, entry by entry, over the extended reals. -/

@[expose] public section
set_option maxRecDepth 16384
noncomputable section
namespace Cert.KernelIdeal.Attn
open Cert.KernelIdeal Cert.KernelIdeal.Gen
open Idealize.ShloMosaic
open Cert.Plain

/-! ## The projections -/

/-- An entry of the projection to queries. -/
theorem query_product (x : FVec Ideal S2x256x768 .bf16) (w : FVec Ideal S768x256 .bf16) (r : Fin 512) (o : Fin 256) :
    k0_pay8 (F := Ideal) (k0_pay1 x) w (ix2 r o)
      = ∑ e : Fin 768, x (ix3 (⟨r.val / 256, by omega⟩ : Fin 2) (⟨r.val % 256, by omega⟩ : Fin 256) e) * w (ix2 e o) := by
  pointwise [k0_pay8, k0_pay1]

/-- An entry of the projection to keys. -/
theorem key_product (x : FVec Ideal S2x256x768 .bf16) (w : FVec Ideal S768x256 .bf16) (r : Fin 512) (o : Fin 256) :
    k0_pay2 (F := Ideal) x w (ix2 r o)
      = ∑ e : Fin 768, x (ix3 (⟨r.val / 256, by omega⟩ : Fin 2) (⟨r.val % 256, by omega⟩ : Fin 256) e) * w (ix2 e o) := by
  pointwise [k0_pay2, k0_pay1]

/-- An entry of the projection to values. -/
theorem value_product (x : FVec Ideal S2x256x768 .bf16) (w : FVec Ideal S768x256 .bf16) (r : Fin 512) (o : Fin 256) :
    k0_pay3 (F := Ideal) x w (ix2 r o)
      = ∑ e : Fin 768, x (ix3 (⟨r.val / 256, by omega⟩ : Fin 2) (⟨r.val % 256, by omega⟩ : Fin 256) e) * w (ix2 e o) := by
  pointwise [k0_pay3, k0_pay1]

/-! ## The words of a lane number -/

/-- A lane number is not negative. -/
theorem slt_zero {j : ℕ} (hj : j < 256) : IntOp.cmpi .slt (BitVec.ofNat 32 j) 0#32 = 0#1 := by
  have : ∀ j : Fin 256, IntOp.cmpi .slt (BitVec.ofNat 32 j.val) 0#32 = 0#1 := by decide
  exact this ⟨j, hj⟩

/-- A guarded remainder of a natural is its remainder: no sign correction is due. -/
theorem no_correction {j : ℕ} (hj : j < 256) (y : BitVec 1) (a b : BitVec 32) :
    Scalar.select (IntOp.andi (IntOp.xori (IntOp.cmpi .slt (BitVec.ofNat 32 j) 0#32) 0#1) y) a b = b := by
  rw [slt_zero hj]
  have : IntOp.andi (IntOp.xori 0#1 0#1) y = 0#1 := by revert y; decide
  rw [this]; rfl

/-- Nor is one due when a lane number below 64 is halved. -/
theorem no_rounding {j : ℕ} (hj : j < 64) (a b : BitVec 32) :
    Scalar.select (IntOp.andi (IntOp.cmpi .ne (IntOp.subi (BitVec.setWidth 32 (IntOp.cmpi .sgt (BitVec.ofNat 32 j) 0#32))
        (BitVec.setWidth 32 (IntOp.cmpi .slt (BitVec.ofNat 32 j) 0#32))) 1#32)
      (IntOp.cmpi .ne (BitVec.ofNat 32 (j % 2)) 0#32)) a b = b := by
  have : ∀ j : Fin 64, IntOp.andi (IntOp.cmpi .ne (IntOp.subi (BitVec.setWidth 32 (IntOp.cmpi .sgt (BitVec.ofNat 32 j.val) 0#32))
        (BitVec.setWidth 32 (IntOp.cmpi .slt (BitVec.ofNat 32 j.val) 0#32))) 1#32)
      (IntOp.cmpi .ne (BitVec.ofNat 32 (j.val % 2)) 0#32) = 0#1 := by decide
  rw [this ⟨j, hj⟩]; rfl

/-- Two is not zero, so a remainder by it is taken by two. -/
theorem guard_two : Scalar.select (Scalar.cmpi .eq 2#32 0#32) 1#32 2#32 = 2#32 := by decide
/-- Likewise for sixty-four. -/
theorem guard_sixty_four : Scalar.select (Scalar.cmpi .eq 64#32 0#32) 1#32 64#32 = 64#32 := by decide
/-- Two is not negative. -/
theorem two_not_negative : Scalar.cmpi .slt 2#32 0#32 = 0#1 := by decide
/-- Nor is sixty-four. -/
theorem sixty_four_not_negative : Scalar.cmpi .slt 64#32 0#32 = 0#1 := by decide
/-- The sign of two is one. -/
theorem sign_two : Scalar.subi (Scalar.extui (Scalar.cmpi .sgt 2#32 0#32)) (Scalar.extui 0#1) = 1#32 := by decide

/-! ## The angle -/

/-- The word of a row's position on device `c`. -/
theorem position_word (u : ArithUnit) (c : Dev nD) (r : Fin 512) :
    IntOp.addi (IntOp.remsi u (BitVec.ofNat 32 r.val) 256#32)
        (Scalar.muli (Scalar.remsi (Scalar.divsi c.word 1#32) 4#32) 256#32)
      = BitVec.ofNat 32 (256 * c.val + r.val % 256) := by
  have hd : Scalar.muli (Scalar.remsi (Scalar.divsi c.word 1#32) 4#32) 256#32 = BitVec.ofNat 32 (256 * c.val) := by
    revert c; decide
  rw [hd, Routing.remsi_word u (by omega) (by omega) (by omega)]
  show BitVec.ofNat 32 _ + BitVec.ofNat 32 _ = _
  rw [← BitVec.ofNat_add, Nat.add_comm]

/-- A row's position on device `c`, as a float. -/
theorem position (c : Dev nD) (r : Fin 512) (o : Fin 256) :
    k0_pay4 (F := Ideal) c (ix2 r o) = (((256 * c.val + r.val % 256 : ℕ) : ℝ) : EReal) := by
  have hc : c.val < 4 := c.isLt
  pointwise [k0_pay4]
  rw [position_word, float_small (by omega)]

/-- The logarithm of a scalar is that of the extended reals. -/
theorem scalar_log (x : EReal) : Scalar.log (F := Ideal) (φ := .f32) x = Ideal.log x := rfl

/-- The inverse frequency of a lane: an exponential that is a power of ten thousand. -/
theorem frequency (r : Fin 512) (o : Fin 256) :
    Ideal.exp (k0_pay5 (F := Ideal) lanes 64#32 0#32 (ix2 r o))
      = ((1 / (10000 : ℝ) ^ (2 * ((o.val % 64 / 2 : ℕ) : ℝ) / 64) : ℝ) : EReal) := by
  have hl : Scalar.log (F := Ideal) (φ := .f32) (Ideal.ofBits FTy.f32 1176256512#32) = ((Real.log 10000 : ℝ) : EReal) := by
    rw [word_ten_thousand, scalar_log, Ideal.log_coe, if_neg (by norm_num)]
  pointwise [k0_pay5, lanes]
  simp only [guard_sixty_four, sixty_four_not_negative, two_not_negative, sign_two,
    Routing.remsi_word _ (show o.val < 2 ^ 31 by omega) (show 0 < 64 by omega) (show 64 < 2 ^ 31 by omega),
    no_correction (show o.val % 64 < 256 by omega),
    Routing.remsi_word _ (show o.val % 64 < 2 ^ 31 by omega) (show 0 < 2 by omega) (show 2 < 2 ^ 31 by omega),
    Routing.divsi_word _ (show o.val % 64 < 2 ^ 31 by omega) (show 0 < 2 by omega) (show 2 < 2 ^ 31 by omega),
    no_rounding (show o.val % 64 < 64 by omega), float_small (show o.val % 64 / 2 < 2 ^ 31 by omega)]
  rw [hl, word_minus_two, word_sixty_four, ← EReal.coe_mul, Ideal.div_coe (by norm_num), ← EReal.coe_mul, ← EReal.coe_mul, Ideal.exp_coe,

    Real.rpow_def_of_pos (by norm_num), one_div (Real.exp _), ← Real.exp_neg]
  congr 2
  ring

/-- The kernel's angles are the plain ones. -/
theorem angle_eq (c : Dev nD) (r : Fin 512) (o : Fin 256) :
    angle (F := Ideal) c (ix2 r o) = ((turn (256 * c.val + r.val % 256) o.val : ℝ) : EReal) := by
  pointwise [angle]
  rw [position, frequency, ← EReal.coe_mul]
  rfl

/-! ## The turn -/

/-- The kernel's turn is the plain one. -/
theorem turned_eq (c : Dev nD) (t : FVec Ideal S512x256 .f32) (r : Fin 512) (o : Fin 256) :
    turned c t (ix2 r o) = twist (fun o => t (ix2 r o)) (256 * c.val + r.val % 256) o := by
  pointwise [turned, k0_pay18, k0_pay15, k0_pay16, k0_pay17, lanes]
  rw [angle_eq, Ideal.cos_coe, Ideal.sin_coe]
  unfold twist
  refine congrArg₂ (· + ·) rfl (congrArg₂ (· * ·) ?_ rfl)
  simp only [guard_two, two_not_negative,
    Routing.remsi_word _ (show o.val < 2 ^ 31 by omega) (show 0 < 2 by omega) (show 2 < 2 ^ 31 by omega),
    no_correction (show o.val % 2 < 256 by omega)]
  by_cases h : o.val % 2 = 0
  · have h1 : o.val < 255 := by omega
    have hw : IntOp.cmpi .eq (BitVec.ofNat 32 (o.val % 2)) 0#32 = 1#1 := by rw [h]; decide
    unfold partner
    rw [hw, dif_pos h, dif_pos h1, zero_sub]
    refine congrArg Neg.neg (congrArg t (congrArg (ix2 r) ?_))
    exact Fin.ext (Nat.add_comm _ _)
  · have h1 : ¬ o.val < 1 := by omega
    have hw : IntOp.cmpi .eq (BitVec.ofNat 32 (o.val % 2)) 0#32 = 0#1 := by
      rw [show o.val % 2 = 1 by omega]; decide
    unfold partner
    rw [hw, dif_neg h, dif_neg h1]
    rfl

end Cert.KernelIdeal.Attn
end
-- ==== Proof.Heads.lean ====
module

public import proofs.«01_k».proof.Proof.Rope
public import proofs.«01_k».proof.Proof.Ring

/-! One head of the kernel, entry by entry: after the four blocks it holds the average of the values by the weights of
their scores. -/

@[expose] public section
set_option maxRecDepth 16384
noncomputable section
namespace Cert.KernelIdeal.Attn
open Cert.KernelIdeal Cert.KernelIdeal.Gen
open Idealize.ShloMosaic
open Cert.Plain Cert.Soft

/-- Row `r` of batch entry `b`. -/
def rowAt (b : Fin 2) (r : Fin 256) : Fin 512 := ⟨256 * b.val + r.val, by omega⟩

/-! ## The pieces of a block -/

/-- An entry of a head's queries. -/
theorem queryOf_at (b : Fin 2) (h : Fin 4) (q : FVec Ideal S512x256 .bf16) (r : Fin 256) (l : Fin 64) :
    queryOf b h q (ix2 r l) = q (ix2 (rowAt b r) (lane h l)) := by
  pointwise [queryOf, rowAt, lane]

/-- An entry of a head's keys. -/
theorem keyOf_at (b : Fin 2) (h : Fin 4) (kv : FVec Ideal S512x512 .bf16) (r : Fin 256) (l : Fin 64) :
    keyOf b h kv (ix2 r l) = kv (ix2 (rowAt b r) ⟨(lane h l).val, by omega⟩) := by
  pointwise [keyOf, rowAt, lane]

/-- An entry of a head's values, which lie in the last 256 lanes. -/
theorem valueOf_at (b : Fin 2) (h : Fin 4) (kv : FVec Ideal S512x512 .bf16) (r : Fin 256) (l : Fin 64) :
    valueOf b h kv (ix2 r l) = kv (ix2 (rowAt b r) ⟨256 + (lane h l).val, by omega⟩) := by
  pointwise [valueOf, rowAt, lane]
  refine congrArg kv (congrArg (ix2 _) (Fin.ext ?_))
  show _ = 256 + (64 * h.val + l.val)
  simp only []
  omega

/-! ## One block -/

/-- An entry of the scaled scores. -/
theorem scores_at (q k : FVec Ideal S256x64 .bf16) (r j : Fin 256) :
    scores q k (ix2 r j) = (∑ y : Fin 64, q (ix2 r y) * k (ix2 j y)) * Ideal.ofBits .f32 0x3E000000#32 := by
  pointwise [scores]

/-- The running maximum after a block. -/
theorem topOf_at (q k : FVec Ideal S256x64 .bf16) (m : FVec Ideal S256x1 .f32) (r : Fin 256) :
    topOf q k m (ix2 r (0 : Fin 1)) = max (m (ix2 r (0 : Fin 1))) (Finset.univ.fold max ⊥ fun j : Fin 256 => scores q k (ix2 r j)) := by
  rw [← word_minus_infinity]
  simp only [scores_at]
  pointwise [topOf, scores]

/-- The running sum of weights after a block. -/
theorem massOf_at (q k : FVec Ideal S256x64 .bf16) (m d : FVec Ideal S256x1 .f32) (r : Fin 256) :
    massOf q k m d (ix2 r (0 : Fin 1)) = d (ix2 r (0 : Fin 1)) * Ideal.exp (m (ix2 r (0 : Fin 1)) - topOf q k m (ix2 r (0 : Fin 1)))
      + ∑ j : Fin 256, Ideal.exp (scores q k (ix2 r j) - topOf q k m (ix2 r (0 : Fin 1))) := by
  pointwise [massOf, weights, decay]

/-- The running weighted sum after a block. -/
theorem mixOf_at (q k v : FVec Ideal S256x64 .bf16) (m : FVec Ideal S256x1 .f32) (a : FVec Ideal S256x64 .f32) (r : Fin 256)
    (l : Fin 64) :
    mixOf q k v m a (ix2 r l) = a (ix2 r l) * Ideal.exp (m (ix2 r (0 : Fin 1)) - topOf q k m (ix2 r (0 : Fin 1)))
      + ∑ j : Fin 256, Ideal.exp (scores q k (ix2 r j) - topOf q k m (ix2 r (0 : Fin 1))) * v (ix2 j l) := by
  pointwise [mixOf, weights, decay]

/-! ## The four blocks -/

section head
variable (b : Fin 2) (h : Fin 4) (q : FVec Ideal S512x256 .bf16) (kv : Fin 4 → FVec Ideal S512x512 .bf16) (r : Fin 256) (l : Fin 64)
variable {s : Fin 4 → Fin 256 → ℝ} {v : Fin 4 → Fin 256 → EReal}

/-- The accumulators of row `r`, lane `l`, hold the blocks of `K`. -/
def Has (s : Fin 4 → Fin 256 → ℝ) (v : Fin 4 → Fin 256 → EReal) (r : Fin 256) (l : Fin 64) (K : Finset (Fin 4)) (st : Acc Ideal) : Prop :=
  Holds s v K (st.top (ix2 r (0 : Fin 1))) (st.mass (ix2 r (0 : Fin 1))) (st.mix (ix2 r l))

/-- Before any block the accumulators hold none. -/
theorem has_init : Has s v r l ∅ Acc.init := by
  obtain ⟨M, hM⟩ := word_start
  have h0 : Ideal.ofBits .f32 0x00000000#32 = 0 := by simp [Ideal.ofBits, Ideal.ieee]
  have := holds_init s v M
  rw [← hM, ← h0] at this
  exact this

/-- `absorbKv` adds one block to those that the accumulators hold. -/
theorem has_absorb
    (hs : ∀ k j, (s k j : EReal) = (∑ y : Fin 64, q (ix2 (rowAt b r) (lane h y)) * kv k (ix2 (rowAt b j) ⟨(lane h y).val, by omega⟩))
      * Ideal.ofBits .f32 0x3E000000#32)
    (hv : ∀ k j, v k j = kv k (ix2 (rowAt b j) ⟨256 + (lane h l).val, by omega⟩))
    {K : Finset (Fin 4)} {st : Acc Ideal} (k : Fin 4) (hk : k ∉ K) (hh : Has s v r l K st) :
    Has s v r l (insert k K) (absorbKv b h q (kv k) st) := by
  have hS : ∀ j, scores (queryOf b h q) (keyOf b h (kv k)) (ix2 r j) = (s k j : EReal) := fun j => by
    rw [hs, scores_at]
    simp only [queryOf_at, keyOf_at]
  have hV : ∀ j, valueOf b h (kv k) (ix2 j l) = v k j := fun j => by rw [hv, valueOf_at]
  have hm := topOf_at (queryOf b h q) (keyOf b h (kv k)) st.top r
  have := holds_absorb hh hk (m' := topOf (queryOf b h q) (keyOf b h (kv k)) st.top (ix2 r (0 : Fin 1)))
    (by rw [hm]; simp only [hS])
  unfold Has absorbKv absorb
  simp only [massOf_at, mixOf_at, hS, hV]
  exact this

/-- The head's output is the quotient of the two running sums. -/
theorem quotient_at (st : Acc Ideal) (r : Fin 256) (l : Fin 64) :
    st.close (ix2 r l) = Ideal.div (st.mix (ix2 r l)) (st.mass (ix2 r (0 : Fin 1))) := by
  pointwise [Acc.close]

/-- After the four blocks the head's output is the average of the values by the shares of their scores. -/
theorem close_at
    (hs : ∀ k j, (s k j : EReal) = (∑ y : Fin 64, q (ix2 (rowAt b r) (lane h y)) * kv k (ix2 (rowAt b j) ⟨(lane h y).val, by omega⟩))
      * Ideal.ofBits .f32 0x3E000000#32)
    (hv : ∀ k j, v k j = kv k (ix2 (rowAt b j) ⟨256 + (lane h l).val, by omega⟩)) :
    (accOf b h q (kv 0) (kv 1) (kv 2) (kv 3)).close (ix2 r l)
      = ∑ k, ∑ j, v k j * (share (fun p : Fin 4 × Fin 256 => s p.1 p.2) (k, j) : EReal) := by
  have step := fun {K st} k hk hh => has_absorb b h q kv r l hs hv (K := K) (st := st) k hk hh
  have h0 := step 0 (by decide) (has_init r l)
  have h1 := step 1 (by decide) h0
  have h2 := step 2 (by decide) h1
  have h3 := step 3 (by decide) h2
  have hu : ∀ {K : Finset (Fin 4)} {st : Acc Ideal}, (∀ k, k ∈ K) → Has s v r l K st → Has s v r l Finset.univ st :=
    fun hK hh => (Finset.eq_univ_iff_forall.mpr hK) ▸ hh
  have h4 := hu (fun k => by fin_cases k <;> simp) h3
  exact (quotient_at _ r l).trans (holds_close h4)

end head

/-! ## The heads side by side -/

/-- Indices of equal coordinates are equal. -/
theorem ix2_congr {m n : ℕ} {i i' : Fin m} {j j' : Fin n} (hi : i.val = i'.val) (hj : j.val = j'.val) : ix2 i j = ix2 i' j' := by
  rw [Fin.ext hi, Fin.ext hj]

/-- Where each head lies in the rows that the last product takes. -/
theorem context_at (b : Fin 2) (h : Fin 4) (q : FVec Ideal S512x256 .bf16) (kv₀ kv₁ kv₂ kv₃ : FVec Ideal S512x512 .bf16)
    (r : Fin 256) (l : Fin 64) :
    context q kv₀ kv₁ kv₂ kv₃ (ix2 (rowAt b r) (lane h l)) = (accOf b h q kv₀ kv₁ kv₂ kv₃).close (ix2 r l) := by
  pointwise [context, rowOf, rowAt, lane]
  fin_cases b <;> fin_cases h <;> simp only [] <;> split_ifs <;>
    first
    | (exfalso; omega)
    | exact congrArg (Acc.close _) (ix2_congr (by dsimp only; omega) (by dsimp only; omega))

/-- An entry of the last product. -/
theorem product_at (x : FVec Ideal S512x256 .bf16) (w : FVec Ideal S256x768 .bf16) (b : Fin 2) (r : Fin 256) (o : Fin 768) :
    k0_pay271 (F := Ideal) x w (ix3 b r o) = ∑ k : Fin 256, x (ix2 (rowAt b r) k) * w (ix2 k o) := by
  pointwise [k0_pay271, rowAt]
  refine Finset.sum_congr rfl fun k _ => congrArg (fun i => x (ix2 i k) * w (ix2 k o)) (Fin.ext ?_)
  show b.val * 256 + r.val = _
  exact congrArg (· + r.val) (Nat.mul_comm _ _)

/-! ## The positions of a device -/

/-- Position `j` of device `d` in the whole sequence. -/
def posOf (d : Dev nD) (j : Fin 256) : Fin 1024 := ⟨256 * d.val + j.val, by have : d.val < 4 := d.isLt; omega⟩

/-- The four slots hold the blocks of the four devices, each once. -/
theorem source_bijective (c : Dev nD) : Function.Bijective (source c) := by revert c; decide

/-- The slots and their rows, as positions. -/
def positions (c : Dev nD) : Fin 4 × Fin 256 ≃ Fin 1024 :=
  (((Equiv.ofBijective (source c) (source_bijective c)).prodCongr (Equiv.refl (Fin 256))).trans
    (finProdFinEquiv (m := 4) (n := 256))).trans (finCongr (by norm_num))

/-- Row `j` of slot `k` is a position of the device whose block the slot holds. -/
theorem positions_at (c : Dev nD) (k : Fin 4) (j : Fin 256) : positions c (k, j) = posOf (source c k) j :=
  Fin.ext (Nat.add_comm _ _)

/-! ## The whole kernel -/

section whole
variable {X : Fin 2 → Fin 1024 → Fin 768 → EReal} {xs : Dev nD → FVec Ideal S2x256x768 .bf16}
variable (hX : ∀ d b r e, xs d (ix3 b r e) = X b (posOf d r) e)
variable (wq wk wv : FVec Ideal S768x256 .bf16) (wo : FVec Ideal S256x768 .bf16)

include hX

/-- A row of a projection, from the device's part of the input, is that of the whole input at its position. -/
theorem row_sum (d : Dev nD) (w : FVec Ideal S768x256 .bf16) (b : Fin 2) (r : Fin 256) (o : Fin 256) :
    ∑ e : Fin 768, xs d (ix3 (⟨(rowAt b r).val / 256, by omega⟩ : Fin 2) (⟨(rowAt b r).val % 256, by omega⟩ : Fin 256) e) * w (ix2 e o)
      = proj X (grid w) b (posOf d r) o := by
  have h1 : (⟨(rowAt b r).val / 256, by omega⟩ : Fin 2) = b := Fin.ext (by show (256 * b.val + r.val) / 256 = b.val; omega)
  have h2 : (⟨(rowAt b r).val % 256, by omega⟩ : Fin 256) = r := Fin.ext (by show (256 * b.val + r.val) % 256 = r.val; omega)
  rw [h1, h2]
  exact Finset.sum_congr rfl fun e _ => by rw [hX]; rfl

/-- A turned projection of a device is the plain one at its position. -/
theorem turned_rot (d : Dev nD) (w : FVec Ideal S768x256 .bf16) (t : FVec Ideal S512x256 .f32) (b : Fin 2) (r : Fin 256) (o : Fin 256)
    (ht : ∀ o, t (ix2 (rowAt b r) o) = proj X (grid w) b (posOf d r) o) :
    turned d t (ix2 (rowAt b r) o) = rot X (grid w) b (posOf d r) o := by
  rw [turned_eq]
  simp only [ht]
  unfold rot
  exact congrArg (fun p => twist _ p o) (show 256 * d.val + (256 * b.val + r.val) % 256 = 256 * d.val + r.val by omega)

/-- The queries of a device are the plain ones at its positions. -/
theorem queries_at (d : Dev nD) (b : Fin 2) (r : Fin 256) (o : Fin 256) :
    queries d (xs d) wq (ix2 (rowAt b r) o) = rot X (grid wq) b (posOf d r) o :=
  turned_rot hX d wq _ b r o fun o => (query_product _ _ _ _).trans (row_sum hX d wq b r o)

/-- The first 256 lanes of a block are the plain keys. -/
theorem keys_at (d : Dev nD) (b : Fin 2) (r : Fin 256) (o : Fin 256) :
    kvBlock d (xs d) wk wv (ix2 (rowAt b r) (⟨o.val, by omega⟩ : Fin 512)) = rot X (grid wk) b (posOf d r) o := by
  pointwise [kvBlock]
  exact turned_rot hX d wk _ b r o fun o => (key_product _ _ _ _).trans (row_sum hX d wk b r o)

/-- The last 256 lanes of a block are the plain values. -/
theorem values_at (d : Dev nD) (b : Fin 2) (r : Fin 256) (o : Fin 256) :
    kvBlock d (xs d) wk wv (ix2 (rowAt b r) (⟨256 + o.val, by omega⟩ : Fin 512)) = proj X (grid wv) b (posOf d r) o := by
  pointwise [kvBlock]
  exact (value_product _ _ _ _).trans (row_sum hX d wv b r o)

variable (hx : ∀ b p e, IsReal (X b p e)) (hq : ∀ e o, IsReal (grid wq e o)) (hk : ∀ e o, IsReal (grid wk e o))
include hx hq hk

/-- Block `k` of device `c`. -/
def blockAt (xs : Dev nD → FVec Ideal S2x256x768 .bf16) (wk wv : FVec Ideal S768x256 .bf16) (c : Dev nD) (k : Fin 4) :
    FVec Ideal S512x512 .bf16 := kvBlock (source c k) (xs (source c k)) wk wv

/-- A head's output on device `c` is the plain average at its position. -/
theorem head_at (c : Dev nD) (b : Fin 2) (h : Fin 4) (r : Fin 256) (l : Fin 64) :
    (accOf b h (queries c (xs c) wq) (blockAt xs wk wv c 0) (blockAt xs wk wv c 1) (blockAt xs wk wv c 2)
        (blockAt xs wk wv c 3)).close (ix2 r l)
      = ctx X (grid wq) (grid wk) (grid wv) b (posOf c r) h l := by
  rw [close_at b h (queries c (xs c) wq) (blockAt xs wk wv c) r l
    (s := fun k j => score X (grid wq) (grid wk) b h (posOf c r) (positions c (k, j)))
    (v := fun k j => proj X (grid wv) b (positions c (k, j)) (lane h l)) ?_ ?_]
  · unfold ctx
    rw [← Equiv.sum_comp (positions c), Fintype.sum_prod_type]
    refine Finset.sum_congr rfl fun k _ => Finset.sum_congr rfl fun j _ => ?_
    exact congrArg (fun z : ℝ => _ * (z : EReal)) (share_equiv (positions c) (score X (grid wq) (grid wk) b h (posOf c r)) (k, j))
  · intro k j
    rw [isReal_score hx hq hk]
    unfold scoreE blockAt
    simp only [queries_at hX, keys_at hX, positions_at]
  · intro k j
    unfold blockAt
    rw [values_at hX, positions_at]

/-- Entry `(b, r, o)` of device `c`'s result is the plain formula at its position. -/
theorem kernel_at (c : Dev nD) (b : Fin 2) (r : Fin 256) (o : Fin 768) :
    k0_pay271 (F := Ideal) (context (queries c (xs c) wq) (blockAt xs wk wv c 0) (blockAt xs wk wv c 1) (blockAt xs wk wv c 2)
        (blockAt xs wk wv c 3)) wo (ix3 b r o)
      = Plain.out X (grid wq) (grid wk) (grid wv) (grid wo) b (posOf c r) o := by
  rw [product_at]
  unfold Plain.out
  refine Finset.sum_congr rfl fun k _ => ?_
  have hk' : k = lane (⟨k.val / 64, by omega⟩ : Fin 4) (⟨k.val % 64, by omega⟩ : Fin 64) :=
    Fin.ext (by show k.val = 64 * (k.val / 64) + k.val % 64; omega)
  refine congrArg (· * _) ?_
  conv_lhs => rw [hk']
  rw [context_at, head_at hX wq wk wv hx hq hk]

end whole

end Cert.KernelIdeal.Attn
end
-- ==== Proof.RefMath.lean ====
module

public import proofs.«01_k».proof.Proof.Gen.ReferenceIdeal.Run
public import proofs.«01_k».proof.Proof.Plain

/-! What the reference computes, entry by entry, over the extended reals: the plain formula. -/

@[expose] public section
set_option maxRecDepth 16384
noncomputable section
namespace Cert.ReferenceIdeal.Attn
open Cert.ReferenceIdeal Cert.ReferenceIdeal.Gen
open Idealize.ShloMosaic Idealize.ShloMosaic.TcCoe
open Cert.Plain Cert.Soft

/-! ## The stages of the reference -/

/-- The angles by position and lane pair. -/
def angles : FVec Ideal S1024x32 .f32 :=
  mulf (broadcastInDim S1024x32 ![0, 1] bcast_S1024x1_S1024x32_0_1 (sitofp .f32 (broadcastInDim S1024x1 ![0] bcast_S1024_S1024x1_0 (iotaInDim S1024 32 0))))
    (broadcastInDim S1024x32 ![0, 1] bcast_S1x32_S1024x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A table over positions and lane pairs, given to both lanes of a pair, every batch entry and every head. -/
def spread (t : FVec Ideal S1024x32 .f32) : FVec Ideal S2x1024x4x64 .f32 :=
  broadcastInDim S2x1024x4x64 ![0, 1, 2, 3] bcast_S1x1024x1x64_S2x1024x4x64_0_1_2_3
    (broadcastInDim S1x1024x1x64 ![1, 3] bcast_S1024x64_S1x1024x1x64_1_3
      (shapeCast _ (broadcastInDim S1024x32x2 ![0, 1] bcast_S1024x32_S1024x32x2_0_1 t) shapeCasts_S1024x32x2_S1024x64))

/-- A projection, by heads. -/
def project (x : FVec Ideal S2x1024x768 .bf16) (w : FVec Ideal S768x256 .bf16) : FVec Ideal S2x1024x4x64 .f32 :=
  shapeCast _ (Host.dotGeneral dot_S2x1024x768_S768x256_S2x1024x256_2_0_01_1_n_n none (extf .f32 x bitsLt_bf16_f32) (extf .f32 w bitsLt_bf16_f32))
    shapeCasts_S2x1024x256_S2x1024x4x64

/-- The lane pairs swapped, the new first lane negated. -/
def swapped (t : FVec Ideal S2x1024x4x64 .f32) : FVec Ideal S2x1024x4x64 .f32 :=
  shapeCast _ (concatenate S2x1024x4x32x2 4
    [⟨S2x1024x4x32x1, (broadcastInDim S2x1024x4x32x1 ![0, 1, 2, 3] bcast_S2x1024x4x32_S2x1024x4x32x1_0_1_2_3
        (Host.negf (shapeCast _ (extractStridedSlice S2x1024x4x32x1 ![0, 0, 0, 0, 1] (shapeCast _ t shapeCasts_S2x1024x4x64_S2x1024x4x32x2)
          slices_S2x1024x4x32x2_S2x1024x4x32x1_0_0_0_0_1) shapeCasts_S2x1024x4x32x1_S2x1024x4x32)))⟩,
      ⟨S2x1024x4x32x1, (broadcastInDim S2x1024x4x32x1 ![0, 1, 2, 3] bcast_S2x1024x4x32_S2x1024x4x32x1_0_1_2_3
        (shapeCast _ (extractStridedSlice S2x1024x4x32x1 ![0, 0, 0, 0, 0] (shapeCast _ t shapeCasts_S2x1024x4x64_S2x1024x4x32x2)
          slices_S2x1024x4x32x2_S2x1024x4x32x1_0_0_0_0_0) shapeCasts_S2x1024x4x32x1_S2x1024x4x32))⟩]
    concatenates_S2x1024x4x32x1_S2x1024x4x32x1_S2x1024x4x32x2_d4) shapeCasts_S2x1024x4x32x2_S2x1024x4x64

/-- A turned projection. -/
def rotated (t : FVec Ideal S2x1024x4x64 .f32) : FVec Ideal S2x1024x4x64 .f32 :=
  addf (mulf t (spread (Host.cos angles))) (mulf (swapped t) (spread (Host.sin angles)))

/-- The scaled scores. -/
def scored (q k : FVec Ideal S2x1024x4x64 .f32) : FVec Ideal S2x4x1024x1024 .f32 :=
  mulf (Host.dotGeneral dot_S2x1024x4x64_S2x1024x4x64_S2x4x1024x1024_3_3_1_1_02_02 none q k)
    (broadcastInDim S2x4x1024x1024 ![] bcast_S_S2x4x1024x1024 (constant S_ .f32 0x3E000000#32))

/-- The largest score of each query. -/
def topped (s : FVec Ideal S2x4x1024x1024 .f32) : FVec Ideal S2x4x1024 .f32 :=
  Host.reduce FloatOps.maximumf s (constant S_ .f32 0xFF800000#32) reducesTo_S2x4x1024x1024_S2x4x1024_d3 h_S_

/-- A value per query, given to every key. -/
def along (t : FVec Ideal S2x4x1024 .f32) : FVec Ideal S2x4x1024x1024 .f32 :=
  broadcastInDim S2x4x1024x1024 ![0, 1, 2, 3] bcast_S2x4x1024x1_S2x4x1024x1024_0_1_2_3
    (broadcastInDim S2x4x1024x1 ![0, 1, 2] bcast_S2x4x1024_S2x4x1024x1_0_1_2 t)

/-- The exponentials of the scores less their maximum. -/
def raised (s : FVec Ideal S2x4x1024x1024 .f32) : FVec Ideal S2x4x1024x1024 .f32 := Host.exp (subf s (along (topped s)))

/-- The shares. -/
def shared (s : FVec Ideal S2x4x1024x1024 .f32) : FVec Ideal S2x4x1024x1024 .f32 :=
  Host.divf (raised s)
    (along (Host.reduceAdd (raised s) (constant S_ .f32 0x00000000#32) reducesTo_S2x4x1024x1024_S2x4x1024_d3 h_S_))

/-- The shares applied to the values, and the last product. -/
def finished (v : FVec Ideal S2x1024x4x64 .f32) (p : FVec Ideal S2x4x1024x1024 .f32) (wo : FVec Ideal S256x768 .bf16) :
    FVec Ideal S2x1024x768 .f32 :=
  Host.dotGeneral dot_S2x1024x256_S256x768_S2x1024x768_2_0_01_1_n_n none
    (shapeCast _ (transpose S2x1024x4x64 [0, 3, 1, 2]
      (Host.dotGeneral dot_S2x1024x4x64_S2x4x1024x1024_S2x4x64x1024_1_3_3_2_02_01 none v p) transposes_S2x4x64x1024_S2x1024x4x64_0_3_1_2)
      shapeCasts_S2x1024x4x64_S2x1024x256) (extf .f32 wo bitsLt_bf16_f32)

/-- The reference. -/
def result (x : FVec Ideal S2x1024x768 .bf16) (wq wk wv : FVec Ideal S768x256 .bf16) (wo : FVec Ideal S256x768 .bf16) :
    FVec Ideal S2x1024x768 .f32 :=
  finished (project x wv) (shared (scored (rotated (project x wq)) (rotated (project x wk)))) wo

/-- The printed reference is these stages. -/
theorem res_eq (m : (ℓ : Loc nD τ sig) → Buf (Elt Ideal) ℓ) (c : Dev nD) :
    Value.res_main_v85 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Their entries -/

/-- An entry of a projection. -/
theorem project_at (x : FVec Ideal S2x1024x768 .bf16) (w : FVec Ideal S768x256 .bf16) (b : Fin 2) (p : Fin 1024) (h : Fin 4) (l : Fin 64) :
    project x w (ix4 b p h l) = proj (cube x) (grid w) b p (lane h l) := by
  have hl : (⟨h.val * 64 + l.val, by omega⟩ : Fin 256) = lane h l := Fin.ext (by show _ = 64 * h.val + l.val; simp only []; omega)
  pointwise [project]
  rw [hl]
  rfl

/-- An entry of the table of angles. -/
theorem angles_at (p : Fin 1024) (i : Fin 32) : angles (ix2 p i) = ((turn p.val (2 * i.val) : ℝ) : EReal) := by
  have hw : IntOp.addi 0#32 (IntOp.muli 2#32 (BitVec.ofNat 32 i.val)) = BitVec.ofNat 32 (2 * i.val) := by revert i; decide
  have hi : 2 * i.val % 64 / 2 = i.val := by omega
  have hpos : (10000 : ℝ) ^ (2 * (i.val : ℝ) / 64) ≠ 0 := (Real.rpow_pos_of_pos (by norm_num) _).ne'
  pointwise [angles]
  rw [hw, float_small (by omega), float_small (by omega), word_ten_thousand, word_sixty_four, Ideal.div_coe (by norm_num),
    ← EReal.coe_mul, Ideal.pow_coe_coe, Real.rpow_eq_pow,
    show ((2 * i.val : ℕ) : ℝ) * (1 / 64) = 2 * (i.val : ℝ) / 64 by push_cast; ring, Ideal.div_coe hpos, one_mul, ← EReal.coe_mul]
  unfold turn
  rw [hi]

/-- Both lanes of a pair take the pair's entry. -/
theorem spread_at (t : FVec Ideal S1024x32 .f32) (b : Fin 2) (p : Fin 1024) (h : Fin 4) (l : Fin 64) :
    spread t (ix4 b p h l) = t (ix2 p (⟨l.val / 2, by omega⟩ : Fin 32)) := by
  pointwise [spread]

/-- The cosine that a lane is multiplied by. -/
theorem cos_at (b : Fin 2) (p : Fin 1024) (h : Fin 4) (l : Fin 64) :
    spread (Host.cos angles) (ix4 b p h l) = ((Real.cos (turn p.val (lane h l).val) : ℝ) : EReal) := by
  rw [spread_at]
  show Ideal.cos (angles _) = _
  rw [angles_at, Ideal.cos_coe, turn_pair]

/-- The sine that its partner is multiplied by. -/
theorem sin_at (b : Fin 2) (p : Fin 1024) (h : Fin 4) (l : Fin 64) :
    spread (Host.sin angles) (ix4 b p h l) = ((Real.sin (turn p.val (lane h l).val) : ℝ) : EReal) := by
  rw [spread_at]
  show Ideal.sin (angles _) = _
  rw [angles_at, Ideal.sin_coe, turn_pair]

/-- An entry of the swapped lanes is the signed partner. -/
theorem swapped_at (t : FVec Ideal S2x1024x4x64 .f32) (T : Fin 256 → EReal) (b : Fin 2) (p : Fin 1024) (h : Fin 4) (l : Fin 64)
    (hT : ∀ l, t (ix4 b p h l) = T (lane h l)) : swapped t (ix4 b p h l) = partner T (lane h l) := by
  have hlane : (lane h l).val = 64 * h.val + l.val := rfl
  pointwise [swapped]
  simp only [hT]
  unfold partner
  by_cases hl : l.val % 2 = 0
  · rw [dif_pos (by omega), dif_pos (by omega)]
    exact congrArg (fun o => -T o) (Fin.ext (by show 64 * h.val + (l.val / 2 * 2 + 1) = 64 * h.val + l.val + 1; omega))
  · rw [dif_neg (by omega), dif_neg (by omega)]
    exact congrArg T (Fin.ext (by show 64 * h.val + (l.val / 2 * 2) = 64 * h.val + l.val - 1; omega))

/-- An entry of a turned projection. -/
theorem rotated_at (x : FVec Ideal S2x1024x768 .bf16) (w : FVec Ideal S768x256 .bf16) (b : Fin 2) (p : Fin 1024) (h : Fin 4) (l : Fin 64) :
    rotated (project x w) (ix4 b p h l) = rot (cube x) (grid w) b p (lane h l) := by
  pointwise [rotated]
  rw [cos_at, sin_at, swapped_at _ (proj (cube x) (grid w) b p) b p h l (project_at x w b p h), project_at]
  rfl

/-- An entry of the scaled scores. -/
theorem scored_at (q k : FVec Ideal S2x1024x4x64 .f32) (b : Fin 2) (h : Fin 4) (i j : Fin 1024) :
    scored q k (ix4 b h i j) = (∑ l : Fin 64, q (ix4 b i h l) * k (ix4 b j h l)) * Ideal.ofBits .f32 0x3E000000#32 := by
  pointwise [scored]

/-- The largest score of a query. -/
theorem topped_at (s : FVec Ideal S2x4x1024x1024 .f32) (b : Fin 2) (h : Fin 4) (i : Fin 1024) :
    topped s (ix3 b h i) = Finset.univ.fold max ⊥ fun j : Fin 1024 => s (ix4 b h i j) := by
  rw [← word_minus_infinity]
  pointwise [topped]

/-- An entry of the shares. -/
theorem shared_at (s : FVec Ideal S2x4x1024x1024 .f32) (b : Fin 2) (h : Fin 4) (i j : Fin 1024) :
    shared s (ix4 b h i j) = Ideal.div (Ideal.exp (s (ix4 b h i j) - topped s (ix3 b h i)))
      (∑ j : Fin 1024, Ideal.exp (s (ix4 b h i j) - topped s (ix3 b h i))) := by
  pointwise [shared, raised, along]

/-- Where the scores are reals, the shares are theirs. -/
theorem share_at (s : FVec Ideal S2x4x1024x1024 .f32) (b : Fin 2) (h : Fin 4) (i j : Fin 1024) (S : Fin 1024 → ℝ)
    (hS : ∀ j, s (ix4 b h i j) = (S j : EReal)) : shared s (ix4 b h i j) = (share S j : EReal) := by
  rw [shared_at]
  simp only [hS]
  exact onePass S j (by rw [topped_at]; simp only [hS])

/-- An entry of the result, from the values and the shares. -/
theorem finished_at (v : FVec Ideal S2x1024x4x64 .f32) (s : FVec Ideal S2x4x1024x1024 .f32) (wo : FVec Ideal S256x768 .bf16)
    (b : Fin 2) (p : Fin 1024) (o : Fin 768) :
    finished v s wo (ix3 b p o) = ∑ k : Fin 256, (∑ j : Fin 1024, v (ix4 b j (⟨k.val / 64, by omega⟩ : Fin 4) (⟨k.val % 64, by omega⟩ : Fin 64))
      * s (ix4 b (⟨k.val / 64, by omega⟩ : Fin 4) p j)) * wo (ix2 k o) := by
  pointwise [finished]

/-- Entry `(b, p, o)` of the reference is the plain formula, where the scores are finite. -/
theorem result_at (x : FVec Ideal S2x1024x768 .bf16) (wq wk wv : FVec Ideal S768x256 .bf16) (wo : FVec Ideal S256x768 .bf16)
    (hx : ∀ b p e, IsReal (cube x b p e)) (hq : ∀ e o, IsReal (grid wq e o)) (hk : ∀ e o, IsReal (grid wk e o))
    (b : Fin 2) (p : Fin 1024) (o : Fin 768) :
    result x wq wk wv wo (ix3 b p o) = out (cube x) (grid wq) (grid wk) (grid wv) (grid wo) b p o := by
  unfold result
  rw [finished_at]
  unfold out ctx
  refine Finset.sum_congr rfl fun k _ => congrArg (· * _) (Finset.sum_congr rfl fun j _ => ?_)
  rw [project_at, share_at _ _ _ _ _ (score (cube x) (grid wq) (grid wk) b _ p)]
  intro j
  rw [isReal_score hx hq hk, scored_at]
  simp only [rotated_at]
  rfl

end Cert.ReferenceIdeal.Attn
end
-- ==== Proof.Equal.lean ====
module

public import proofs.«01_k».proof.Proof.Frames
public import proofs.«01_k».proof.Proof.Heads
public import proofs.«01_k».proof.Proof.RefMath

/-! The kernel's results are the blocks of the reference's result. -/

@[expose] public section
set_option maxRecDepth 16384
noncomputable section
namespace Cert.Proof
open Idealize.ShloMosaic Idealize.ShloMosaic.TcCoe Idealize.SL.Sem
open Cert.Plain

/-! ## The preconditions -/

/-- The shape facts that the precondition of the kernel states. -/
theorem facts_kernel : Cert.Pre_finite_scores_KernelIdeal.Facts := ⟨by decide, by decide⟩

/-- The shape facts that the precondition of the reference states. -/
theorem facts_reference : Cert.Pre_finite_scores_ReferenceIdeal.Facts := ⟨by decide, by decide⟩

/-- The word that the precondition compares with is infinity. -/
theorem word_infinity : Ideal.ofBits .bf16 0x7F80#16 = ⊤ := by
  simp [Ideal.ofBits, Ideal.ieee]

/-- A value whose size is below infinity is a real. -/
theorem isReal_of_test {a : EReal} (h : Ideal.cmp .olt (max a (-a)) (Ideal.ofBits .bf16 0x7F80#16) = 1#1) : IsReal a := by
  rw [word_infinity] at h
  have hlt : max a (-a) < ⊤ := by
    by_contra hn
    rw [show Ideal.cmp .olt (max a (-a)) ⊤ = BitVec.ofBool (decide (max a (-a) < ⊤)) from rfl, decide_eq_false hn] at h
    exact absurd h (by decide)
  induction a with
  | bot => exact absurd hlt (by simp)
  | top => exact absurd hlt (by simp)
  | coe r => exact ⟨r, rfl⟩

section pre
variable {m : (ℓ : Loc Cert.KernelIdeal.nD Cert.KernelIdeal.τ Cert.KernelIdeal.sig) → Buf (Elt Ideal) ℓ}
variable (h : Cert.Pre_KernelIdeal_finite_scores_KernelIdeal (hPre_finite_scores_KernelIdeal := facts_kernel) m)
include h

/-- Under the precondition each device's part of the input is real. -/
theorem finite_x (c : Dev Cert.KernelIdeal.nD) (b : Fin 2) (r : Fin 256) (e : Fin 768) :
    IsReal (cube (φ := .bf16) (m ((c.tc : Thread Cert.KernelIdeal.nD Cert.KernelIdeal.τ).loc Cert.KernelIdeal.main_arg0)) b r e) :=
  isReal_of_test (congrFun (h c).1 (ix3 b r e))

/-- Under the precondition the query weights are real. -/
theorem finite_wq (c : Dev Cert.KernelIdeal.nD) (e : Fin 768) (o : Fin 256) :
    IsReal (grid (φ := .bf16) (m ((c.tc : Thread Cert.KernelIdeal.nD Cert.KernelIdeal.τ).loc Cert.KernelIdeal.main_arg1)) e o) :=
  isReal_of_test (congrFun (h c).2.1 (ix2 e o))

/-- Under the precondition the key weights are real. -/
theorem finite_wk (c : Dev Cert.KernelIdeal.nD) (e : Fin 768) (o : Fin 256) :
    IsReal (grid (φ := .bf16) (m ((c.tc : Thread Cert.KernelIdeal.nD Cert.KernelIdeal.τ).loc Cert.KernelIdeal.main_arg2)) e o) :=
  isReal_of_test (congrFun (h c).2.2 (ix2 e o))

end pre

/-! ## Blocks of the sequence -/

/-- Row `r` of device `c`'s block is its position of the whole. -/
theorem block_at {α : Type} (c : Fin 4) (v : (⟨3, ![2, 1024, 768]⟩ : Shape).Idx → α) (b : Fin 2) (r : Fin 256) (e : Fin 768) :
    Layout.block ⟨3, ![2, 256, 768]⟩ ⟨3, ![2, 1024, 768]⟩ 1 4 c v (by decide) (ix3 b r e)
      = v (ix3 b (Cert.KernelIdeal.Attn.posOf c r) e) := by
  rw [Layout.block_apply]
  refine congrArg v (funext fun a => Fin.ext ?_)
  fin_cases a
  · rfl
  · show c.val * 256 + r.val = 256 * c.val + r.val
    omega
  · rfl

/-- Every position is a device's. -/
theorem pos_cover (p : Fin 1024) : ∃ (c : Dev Cert.KernelIdeal.nD) (r : Fin 256), p = Cert.KernelIdeal.Attn.posOf c r :=
  ⟨(⟨p.val / 256, by omega⟩ : Fin 4), ⟨p.val % 256, by omega⟩, Fin.ext (by show p.val = 256 * (p.val / 256) + p.val % 256; omega)⟩

/-! ## The claim -/

section equal
variable {m : (ℓ : Loc Cert.KernelIdeal.nD Cert.KernelIdeal.τ Cert.KernelIdeal.sig) → Buf (Elt Ideal) ℓ}
variable (x : FVec Ideal ⟨3, ![2, 1024, 768]⟩ .bf16) (wq wk wv : FVec Ideal ⟨2, ![768, 256]⟩ .bf16) (wo : FVec Ideal ⟨2, ![256, 768]⟩ .bf16)

/-- Where the arguments are the parts of whole arrays, device `c`'s result is block `c` of the reference's result. -/
theorem result_block (h : Cert.Pre_KernelIdeal_finite_scores_KernelIdeal (hPre_finite_scores_KernelIdeal := facts_kernel) m)
    (h0 : ∀ c : Dev Cert.KernelIdeal.nD, m (c.tc.loc Cert.KernelIdeal.main_arg0)
      = Layout.block ⟨3, ![2, 256, 768]⟩ ⟨3, ![2, 1024, 768]⟩ 1 4 c x)
    (h1 : ∀ c : Dev Cert.KernelIdeal.nD, m (c.tc.loc Cert.KernelIdeal.main_arg1) = wq)
    (h2 : ∀ c : Dev Cert.KernelIdeal.nD, m (c.tc.loc Cert.KernelIdeal.main_arg2) = wk)
    (h3 : ∀ c : Dev Cert.KernelIdeal.nD, m (c.tc.loc Cert.KernelIdeal.main_arg3) = wv)
    (h4 : ∀ c : Dev Cert.KernelIdeal.nD, m (c.tc.loc Cert.KernelIdeal.main_arg4) = wo) (c : Dev Cert.KernelIdeal.nD) :
    Cert.KernelIdeal.Attn.resultOf m c
      = Layout.block ⟨3, ![2, 256, 768]⟩ ⟨3, ![2, 1024, 768]⟩ 1 4 c (Cert.ReferenceIdeal.Attn.result x wq wk wv wo) := by
  have hX : ∀ (d : Dev Cert.KernelIdeal.nD) (b : Fin 2) (r : Fin 256) (e : Fin 768),
      m (d.tc.loc Cert.KernelIdeal.main_arg0) (ix3 b r e) = cube x b (Cert.KernelIdeal.Attn.posOf d r) e := fun d b r e => by
    rw [h0 d]
    exact block_at d x b r e
  have hx : ∀ b p e, IsReal (cube x b p e) := fun b p e => by
    obtain ⟨d, r, rfl⟩ := pos_cover p
    have := finite_x h d b r e
    unfold cube at this
    rwa [hX] at this
  have hq : ∀ e o, IsReal (grid wq e o) := fun e o => by
    have := finite_wq h c e o
    rwa [h1] at this
  have hk : ∀ e o, IsReal (grid wk e o) := fun e o => by
    have := finite_wk h c e o
    rwa [h2] at this
  funext j
  obtain ⟨b, r, o, rfl⟩ : ∃ (b : Fin 2) (r : Fin 256) (o : Fin 768), j = ix3 b r o := ⟨_, _, _, eq_ix3 j⟩
  refine Eq.trans ?_ (block_at c _ b r o).symm
  rw [Cert.ReferenceIdeal.Attn.result_at x wq wk wv wo hx hq hk]
  refine Eq.trans ?_ (Cert.KernelIdeal.Attn.kernel_at (xs := fun d => m (d.tc.loc Cert.KernelIdeal.main_arg0)) hX wq wk wv wo hx hq hk c b r o)
  unfold Cert.KernelIdeal.Attn.resultOf Cert.KernelIdeal.Attn.blockOf Cert.KernelIdeal.Attn.blockAt
  simp only [h1, h2, h3, h4]

end equal

/-- The value claim: both programs run, and the kernel's results are the blocks of the reference's. -/
theorem algebraic : Cert.algebraic_KernelIdeal_ReferenceIdeal_pre_finite_scores_KernelIdeal
    (hPre_finite_scores_KernelIdeal := facts_kernel) := fun m g m' g' hp ha =>
  ⟨Cert.ReferenceIdeal.Value.res_main_v85 m' 0,
    (θ_run Cert.KernelIdeal.defs _ _).mono
      (fun r h c => ⟨by
          rw [h.1 c, Cert.ReferenceIdeal.Attn.res_eq]
          exact result_block _ _ _ _ _ hp (fun c => (ha c).1) (fun c => (ha c).2.1) (fun c => (ha c).2.2.1)
            (fun c => (ha c).2.2.2.1) (fun c => (ha c).2.2.2.2) c, h.2.1 c⟩)
      (Cert.KernelIdeal.Attn.run_result (F := Ideal) m g),
    (θ_run Cert.ReferenceIdeal.defs _ _).mono (fun r h => h 0) (Cert.ReferenceIdeal.Value.run (F := Ideal) m' g')⟩

end Cert.Proof

end
-- ==== Proof.lean ====
module

public import proofs.«01_k».proof.Defs
public import proofs.«01_k».proof.Proof.Equal

/-! The claims of this certificate, from the runs proved in the modules under Proof/. -/

@[expose] public section

noncomputable section

namespace Cert.Proof

/-- The ideal pass rewrote nothing in the kernel. -/
theorem preserves : Cert.preserves_Kernel_KernelIdeal := trivial

theorem claim : Cert.Claim :=
  ⟨Cert.Kernel.Gen.facts, Cert.KernelIdeal.Gen.facts, Cert.ReferenceIdeal.Gen.facts, facts_kernel, facts_reference,
    frame_kernel, frame_kernelIdeal, fun m ρ _ => frame_kernelIdeal m ρ trivial, frame_referenceIdeal,
    fun m ρ _ => frame_referenceIdeal m ρ trivial, preserves, algebraic⟩

end Cert.Proof

end
